-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.block ⟨4, ![2, 512, 8, 64]⟩ ⟨4, ![2, 4096, 8, 64]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Pre_finite_ReferenceIdeal.lean ====
abbrev S2x4096x8x64 : Shape := ⟨4, ![2, 4096, 8, 64]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel

variable [Facts]

def fn {F : FTy → Type} [FloatOps F] (main_arg0 : FVec F S2x4096x8x64 .f32) (main_arg1 : FVec F S2x4096x8x64 .f32) (main_arg2 : FVec F S2x4096x8x64 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x8x64 .f32 := Host.absf main_arg1
  let main_cst_0 : FVec F S_ .f32 := constant S_ .f32 0x7F800000#32
  let main_v5 : FVec F S2x4096x8x64 .f32 := broadcastInDim S2x4096x8x64 ![] bcast_S_S2x4096x8x64 main_cst_0
  let main_v6 : IVec S2x4096x8x64 1 := cmpf .olt main_v4 main_v5
  let main_c_1 : IVec S_ 1 := constantI S_ 1 1#1
  let main_v7 : IVec S_ 1 := (fun x v => Host.reduce IntOp.andi x v reducesTo_S2x4096x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S_ : Shape := ⟨0, ![]⟩
abbrev S2x8x64x256 : Shape := ⟨4, ![2, 8, 64, 256]⟩
abbrev S7x2x8x64x256 : Shape := ⟨5, ![7, 2, 8, 64, 256]⟩
abbrev S2x8x512 : Shape := ⟨3, ![2, 8, 512]⟩
abbrev S7 : Shape := ⟨1, ![7]⟩
abbrev S1 : Shape := ⟨1, ![1]⟩
abbrev S1x2x8x64x256 : Shape := ⟨5, ![1, 2, 8, 64, 256]⟩
abbrev S1x1x64x512 : Shape := ⟨4, ![1, 1, 64, 512]⟩
abbrev S64x512 : Shape := ⟨2, ![64, 512]⟩
abbrev S1x1x64x256 : Shape := ⟨4, ![1, 1, 64, 256]⟩
abbrev S64x256 : Shape := ⟨2, ![64, 256]⟩
abbrev S256x512 : Shape := ⟨2, ![256, 512]⟩
abbrev S512 : Shape := ⟨1, ![512]⟩
abbrev S1x1x512 : Shape := ⟨3, ![1, 1, 512]⟩
abbrev S1x1x1x64x256 : Shape := ⟨5, ![1, 1, 1, 64, 256]⟩
abbrev S1x512 : Shape := ⟨2, ![1, 512]⟩

abbrev nBuf : Space → Nat
  | .hbm => 18
  | .vmem => 11
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x64x512, .f32⟩
  | .hbm, ⟨4, _⟩ => ⟨S_, .f32⟩
  | .hbm, ⟨5, _⟩ => ⟨S2x8x64x512, .f32⟩
  | .hbm, ⟨6, _⟩ => ⟨S2x8x64x512, .f32⟩
  | .hbm, ⟨7, _⟩ => ⟨S2x8x64x512, .bf16⟩
  | .hbm, ⟨8, _⟩ => ⟨S2x8x64x512, .f32⟩
  | .hbm, ⟨9, _⟩ => ⟨S2x8x64x512, .bf16⟩
  | .hbm, ⟨10, _⟩ => ⟨S2x8x64x512, .f32⟩
  | .hbm, ⟨11, _⟩ => ⟨S2x8x64x512, .bf16⟩
  | .hbm, ⟨12, _⟩ => ⟨S2x8x64x256, .bf16⟩
  | .hbm, ⟨13, _⟩ => ⟨S2x8x64x256, .bf16⟩
  | .hbm, ⟨14, _⟩ => ⟨S2x8x64x256, .bf16⟩
  | .hbm, ⟨15, _⟩ => ⟨S2x8x64x256, .bf16⟩
  | .hbm, ⟨16, _⟩ => ⟨S2x8x64x512, .f32⟩
  | .hbm, ⟨17, _⟩ => ⟨S2x512x8x64, .f32⟩
  | .local _ .vmem, ⟨0, _⟩ => ⟨S2x8x64x512, .bf16⟩
  | .local _ .vmem, ⟨1, _⟩ => ⟨S2x8x64x256, .bf16⟩
  | .local _ .vmem, ⟨2, _⟩ => ⟨S2x8x64x256, .bf16⟩
  | .local _ .vmem, ⟨3, _⟩ => ⟨S2x8x64x256, .bf16⟩
  | .local _ .vmem, ⟨4, _⟩ => ⟨S2x8x64x256, .bf16⟩
  | .local _ .vmem, ⟨5, _⟩ => ⟨S2x8x64x512, .f32⟩
  | .local _ .vmem, ⟨6, _⟩ => ⟨S7x2x8x64x256, .bf16⟩
  | .local _ .vmem, ⟨7, _⟩ => ⟨S7x2x8x64x256, .bf16⟩
  | .local _ .vmem, ⟨8, _⟩ => ⟨S7x2x8x64x256, .bf16⟩
  | .local _ .vmem, ⟨9, _⟩ => ⟨S7x2x8x64x256, .bf16⟩
  | .local _ .vmem, ⟨10, _⟩ => ⟨S2x8x512, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_22 : BitVec 32 := 1#32
  let v21 : BitVec 32 := Scalar.muli v7 c1_i32_22
  let v22 : BitVec 32 := Scalar.addi c0_i32_23 v21
  v22.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_31 : BitVec 32 := 1#32
  let v29 : BitVec 32 := Scalar.muli v5 c1_i32_31
  let v30 : BitVec 32 := Scalar.addi c0_i32_32 v29
  v30.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_40 : BitVec 32 := 1#32
  let v37 : BitVec 32 := Scalar.muli v5 c1_i32_40
  let v38 : BitVec 32 := Scalar.addi c0_i32_41 v37
  v38.toNat
@[reducible] def k0_t1_loop : Scf.Loop 32 :=
  let c0_i32_46 : BitVec 32 := 0#32
  let c16_i32 : BitVec 32 := 16#32
  let v45 : BitVec 32 := Scalar.addi c0_i32_46 c16_i32
  let c1_i32_47 : BitVec 32 := 1#32
  ⟨c0_i32_46, v45, c1_i32_47⟩
def k0_off1 (k0_t1 : Fin k0_t1_loop.trips) : Fin 4 → Nat :=
  let c0_i32_46 : BitVec 32 := 0#32
  let c1_i32_47 : BitVec 32 := 1#32
  let arg19 : BitVec 32 := Scf.iv c0_i32_46 c1_i32_47 k0_t1
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off2 (k0_t1 : Fin k0_t1_loop.trips) : Fin 4 → Nat :=
  let c0_i32_46 : BitVec 32 := 0#32
  let c1_i32_47 : BitVec 32 := 1#32
  let arg19 : BitVec 32 := Scf.iv c0_i32_46 c1_i32_47 k0_t1
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1134 : Index := 0#32
  let c0_1135 : Index := 0#32
  ![v691.toNat, v692.toNat, 0, 0]
def k0_off3 (k0_t1 : Fin k0_t1_loop.trips) : Fin 3 → Nat :=
  let c0_i32_46 : BitVec 32 := 0#32
  let c1_i32_47 : BitVec 32 := 1#32
  let arg19 : BitVec 32 := Scf.iv c0_i32_46 c1_i32_47 k0_t1
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1147 : Index := 0#32
  ![v719.toNat, v720.toNat, 0]
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_70 : BitVec 32 := 1#32
  let v56 : BitVec 32 := Scalar.muli v7 c1_i32_70
  let v57 : BitVec 32 := Scalar.addi c0_i32_71 v56
  v57.toNat
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_101 : BitVec 32 := 1#32
  let v76 : BitVec 32 := Scalar.muli v7 c1_i32_101
  let v77 : BitVec 32 := Scalar.addi c0_i32_102 v76
  v77.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_132 : BitVec 32 := 1#32
  let v96 : BitVec 32 := Scalar.muli v5 c1_i32_132
  let v97 : BitVec 32 := Scalar.addi c0_i32_133 v96
  v97.toNat
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_163 : BitVec 32 := 1#32
  let v116 : BitVec 32 := Scalar.muli v5 c1_i32_163
  let v117 : BitVec 32 := Scalar.addi c0_i32_164 v116
  v117.toNat
@[reducible] def k0_t2_loop : Scf.Loop 32 :=
  let c0_i32_173 : BitVec 32 := 0#32
  let c16_i32_174 : BitVec 32 := 16#32
  let v126 : BitVec 32 := Scalar.addi c0_i32_173 c16_i32_174
  let c1_i32_175 : BitVec 32 := 1#32
  ⟨c0_i32_173, v126, c1_i32_175⟩
def k0_off4 (k0_t2 : Fin k0_t2_loop.trips) : Fin 4 → Nat :=
  let c0_i32_173 : BitVec 32 := 0#32
  let c1_i32_175 : BitVec 32 := 1#32
  let arg19 : BitVec 32 := Scf.iv c0_i32_173 c1_i32_175 k0_t2
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off5 (k0_t2 : Fin k0_t2_loop.trips) : Fin 5 → Nat :=
  let c0_1134 : Index := 0#32
  let c0_i32_173 : BitVec 32 := 0#32
  let c1_i32_175 : BitVec 32 := 1#32
  let arg19 : BitVec 32 := Scf.iv c0_i32_173 c1_i32_175 k0_t2
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1135 : Index := 0#32
  let c0_1136 : Index := 0#32
  ![0, v691.toNat, v692.toNat, 0, 0]
def k0_off6 (k0_t2 : Fin k0_t2_loop.trips) : Fin 3 → Nat :=
  let c0_i32_173 : BitVec 32 := 0#32
  let c1_i32_175 : BitVec 32 := 1#32
  let arg19 : BitVec 32 := Scf.iv c0_i32_173 c1_i32_175 k0_t2
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1151 : Index := 0#32
  ![v719.toNat, v720.toNat, 0]
def k0_dev11 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_208 : BitVec 32 := 1#32
  let v141 : BitVec 32 := Scalar.muli v7 c1_i32_208
  let v142 : BitVec 32 := Scalar.addi c0_i32_209 v141
  v142.toNat
def k0_dev12 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_249 : BitVec 32 := 1#32
  let v165 : BitVec 32 := Scalar.muli v7 c1_i32_249
  let v166 : BitVec 32 := Scalar.addi c0_i32_250 v165
  v166.toNat
def k0_dev13 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_290 : BitVec 32 := 1#32
  let v189 : BitVec 32 := Scalar.muli v5 c1_i32_290
  let v190 : BitVec 32 := Scalar.addi c0_i32_291 v189
  v190.toNat
def k0_dev14 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_331 : BitVec 32 := 1#32
  let v213 : BitVec 32 := Scalar.muli v5 c1_i32_331
  let v214 : BitVec 32 := Scalar.addi c0_i32_332 v213
  v214.toNat
@[reducible] def k0_t3_loop : Scf.Loop 32 :=
  let c0_i32_341 : BitVec 32 := 0#32
  let c16_i32_342 : BitVec 32 := 16#32
  let v223 : BitVec 32 := Scalar.addi c0_i32_341 c16_i32_342
  let c1_i32_343 : BitVec 32 := 1#32
  ⟨c0_i32_341, v223, c1_i32_343⟩
def k0_off7 (k0_t3 : Fin k0_t3_loop.trips) : Fin 4 → Nat :=
  let c0_i32_341 : BitVec 32 := 0#32
  let c1_i32_343 : BitVec 32 := 1#32
  let arg19 : BitVec 32 := Scf.iv c0_i32_341 c1_i32_343 k0_t3
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off8 (k0_t3 : Fin k0_t3_loop.trips) : Fin 5 → Nat :=
  let c1 : Index := 1#32
  let c0_i32_341 : BitVec 32 := 0#32
  let c1_i32_343 : BitVec 32 := 1#32
  let arg19 : BitVec 32 := Scf.iv c0_i32_341 c1_i32_343 k0_t3
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1134 : Index := 0#32
  let c0_1135 : Index := 0#32
  ![1, v691.toNat, v692.toNat, 0, 0]
def k0_off9 (k0_t3 : Fin k0_t3_loop.trips) : Fin 3 → Nat :=
  let c0_i32_341 : BitVec 32 := 0#32
  let c1_i32_343 : BitVec 32 := 1#32
  let arg19 : BitVec 32 := Scf.iv c0_i32_341 c1_i32_343 k0_t3
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1150 : Index := 0#32
  ![v719.toNat, v720.toNat, 0]
def k0_dev15 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_375 : BitVec 32 := 1#32
  let v238 : BitVec 32 := Scalar.muli v7 c1_i32_375
  let v239 : BitVec 32 := Scalar.addi c0_i32_376 v238
  v239.toNat
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_416 : BitVec 32 := 1#32
  let v262 : BitVec 32 := Scalar.muli v7 c1_i32_416
  let v263 : BitVec 32 := Scalar.addi c0_i32_417 v262
  v263.toNat
def k0_dev17 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_457 : BitVec 32 := 1#32
  let v286 : BitVec 32 := Scalar.muli v5 c1_i32_457
  let v287 : BitVec 32 := Scalar.addi c0_i32_458 v286
  v287.toNat
def k0_dev18 (d0 : Dev nD) : Nat :=
  let c0_i32_499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_498 : BitVec 32 := 1#32
  let v310 : BitVec 32 := Scalar.muli v5 c1_i32_498
  let v311 : BitVec 32 := Scalar.addi c0_i32_499 v310
  v311.toNat
@[reducible] def k0_t4_loop : Scf.Loop 32 :=
  let c0_i32_508 : BitVec 32 := 0#32
  let c16_i32_509 : BitVec 32 := 16#32
  let v320 : BitVec 32 := Scalar.addi c0_i32_508 c16_i32_509
  let c1_i32_510 : BitVec 32 := 1#32
  ⟨c0_i32_508, v320, c1_i32_510⟩
def k0_off10 (k0_t4 : Fin k0_t4_loop.trips) : Fin 4 → Nat :=
  let c0_i32_508 : BitVec 32 := 0#32
  let c1_i32_510 : BitVec 32 := 1#32
  let arg19 : BitVec 32 := Scf.iv c0_i32_508 c1_i32_510 k0_t4
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off11 (k0_t4 : Fin k0_t4_loop.trips) : Fin 5 → Nat :=
  let c2 : Index := 2#32
  let c0_i32_508 : BitVec 32 := 0#32
  let c1_i32_510 : BitVec 32 := 1#32
  let arg19 : BitVec 32 := Scf.iv c0_i32_508 c1_i32_510 k0_t4
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1134 : Index := 0#32
  let c0_1135 : Index := 0#32
  ![2, v691.toNat, v692.toNat, 0, 0]
def k0_off12 (k0_t4 : Fin k0_t4_loop.trips) : Fin 3 → Nat :=
  let c0_i32_508 : BitVec 32 := 0#32
  let c1_i32_510 : BitVec 32 := 1#32
  let arg19 : BitVec 32 := Scf.iv c0_i32_508 c1_i32_510 k0_t4
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1150 : Index := 0#32
  ![v719.toNat, v720.toNat, 0]
def k0_dev19 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_542 : BitVec 32 := 1#32
  let v335 : BitVec 32 := Scalar.muli v7 c1_i32_542
  let v336 : BitVec 32 := Scalar.addi c0_i32_543 v335
  v336.toNat
def k0_dev20 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_583 : BitVec 32 := 1#32
  let v359 : BitVec 32 := Scalar.muli v7 c1_i32_583
  let v360 : BitVec 32 := Scalar.addi c0_i32_584 v359
  v360.toNat
def k0_dev21 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_624 : BitVec 32 := 1#32
  let v383 : BitVec 32 := Scalar.muli v5 c1_i32_624
  let v384 : BitVec 32 := Scalar.addi c0_i32_625 v383
  v384.toNat
def k0_dev22 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_665 : BitVec 32 := 1#32
  let v407 : BitVec 32 := Scalar.muli v5 c1_i32_665
  let v408 : BitVec 32 := Scalar.addi c0_i32_666 v407
  v408.toNat
@[reducible] def k0_t5_loop : Scf.Loop 32 :=
  let c0_i32_675 : BitVec 32 := 0#32
  let c16_i32_676 : BitVec 32 := 16#32
  let v417 : BitVec 32 := Scalar.addi c0_i32_675 c16_i32_676
  let c1_i32_677 : BitVec 32 := 1#32
  ⟨c0_i32_675, v417, c1_i32_677⟩
def k0_off13 (k0_t5 : Fin k0_t5_loop.trips) : Fin 4 → Nat :=
  let c0_i32_675 : BitVec 32 := 0#32
  let c1_i32_677 : BitVec 32 := 1#32
  let arg19 : BitVec 32 := Scf.iv c0_i32_675 c1_i32_677 k0_t5
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off14 (k0_t5 : Fin k0_t5_loop.trips) : Fin 5 → Nat :=
  let c3 : Index := 3#32
  let c0_i32_675 : BitVec 32 := 0#32
  let c1_i32_677 : BitVec 32 := 1#32
  let arg19 : BitVec 32 := Scf.iv c0_i32_675 c1_i32_677 k0_t5
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1134 : Index := 0#32
  let c0_1135 : Index := 0#32
  ![3, v691.toNat, v692.toNat, 0, 0]
def k0_off15 (k0_t5 : Fin k0_t5_loop.trips) : Fin 3 → Nat :=
  let c0_i32_675 : BitVec 32 := 0#32
  let c1_i32_677 : BitVec 32 := 1#32
  let arg19 : BitVec 32 := Scf.iv c0_i32_675 c1_i32_677 k0_t5
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1150 : Index := 0#32
  ![v719.toNat, v720.toNat, 0]
def k0_dev23 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_709 : BitVec 32 := 1#32
  let v432 : BitVec 32 := Scalar.muli v7 c1_i32_709
  let v433 : BitVec 32 := Scalar.addi c0_i32_710 v432
  v433.toNat
def k0_dev24 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_750 : BitVec 32 := 1#32
  let v456 : BitVec 32 := Scalar.muli v7 c1_i32_750
  let v457 : BitVec 32 := Scalar.addi c0_i32_751 v456
  v457.toNat
def k0_dev25 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_791 : BitVec 32 := 1#32
  let v480 : BitVec 32 := Scalar.muli v5 c1_i32_791
  let v481 : BitVec 32 := Scalar.addi c0_i32_792 v480
  v481.toNat
def k0_dev26 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_832 : BitVec 32 := 1#32
  let v504 : BitVec 32 := Scalar.muli v5 c1_i32_832
  let v505 : BitVec 32 := Scalar.addi c0_i32_833 v504
  v505.toNat
@[reducible] def k0_t6_loop : Scf.Loop 32 :=
  let c0_i32_842 : BitVec 32 := 0#32
  let c16_i32_843 : BitVec 32 := 16#32
  let v514 : BitVec 32 := Scalar.addi c0_i32_842 c16_i32_843
  let c1_i32_844 : BitVec 32 := 1#32
  ⟨c0_i32_842, v514, c1_i32_844⟩
def k0_off16 (k0_t6 : Fin k0_t6_loop.trips) : Fin 4 → Nat :=
  let c0_i32_842 : BitVec 32 := 0#32
  let c1_i32_844 : BitVec 32 := 1#32
  let arg19 : BitVec 32 := Scf.iv c0_i32_842 c1_i32_844 k0_t6
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off17 (k0_t6 : Fin k0_t6_loop.trips) : Fin 5 → Nat :=
  let c4 : Index := 4#32
  let c0_i32_842 : BitVec 32 := 0#32
  let c1_i32_844 : BitVec 32 := 1#32
  let arg19 : BitVec 32 := Scf.iv c0_i32_842 c1_i32_844 k0_t6
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1134 : Index := 0#32
  let c0_1135 : Index := 0#32
  ![4, v691.toNat, v692.toNat, 0, 0]
def k0_off18 (k0_t6 : Fin k0_t6_loop.trips) : Fin 3 → Nat :=
  let c0_i32_842 : BitVec 32 := 0#32
  let c1_i32_844 : BitVec 32 := 1#32
  let arg19 : BitVec 32 := Scf.iv c0_i32_842 c1_i32_844 k0_t6
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1150 : Index := 0#32
  ![v719.toNat, v720.toNat, 0]
def k0_dev27 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_876 : BitVec 32 := 1#32
  let v529 : BitVec 32 := Scalar.muli v7 c1_i32_876
  let v530 : BitVec 32 := Scalar.addi c0_i32_877 v529
  v530.toNat
def k0_dev28 (d0 : Dev nD) : Nat :=
  let c0_i32_918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_917 : BitVec 32 := 1#32
  let v553 : BitVec 32 := Scalar.muli v7 c1_i32_917
  let v554 : BitVec 32 := Scalar.addi c0_i32_918 v553
  v554.toNat
def k0_dev29 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_958 : BitVec 32 := 1#32
  let v577 : BitVec 32 := Scalar.muli v5 c1_i32_958
  let v578 : BitVec 32 := Scalar.addi c0_i32_959 v577
  v578.toNat
def k0_dev30 (d0 : Dev nD) : Nat :=
  let c0_i32_1000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_999 : BitVec 32 := 1#32
  let v601 : BitVec 32 := Scalar.muli v5 c1_i32_999
  let v602 : BitVec 32 := Scalar.addi c0_i32_1000 v601
  v602.toNat
@[reducible] def k0_t7_loop : Scf.Loop 32 :=
  let c0_i32_1009 : BitVec 32 := 0#32
  let c16_i32_1010 : BitVec 32 := 16#32
  let v611 : BitVec 32 := Scalar.addi c0_i32_1009 c16_i32_1010
  let c1_i32_1011 : BitVec 32 := 1#32
  ⟨c0_i32_1009, v611, c1_i32_1011⟩
def k0_off19 (k0_t7 : Fin k0_t7_loop.trips) : Fin 4 → Nat :=
  let c0_i32_1009 : BitVec 32 := 0#32
  let c1_i32_1011 : BitVec 32 := 1#32
  let arg19 : BitVec 32 := Scf.iv c0_i32_1009 c1_i32_1011 k0_t7
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off20 (k0_t7 : Fin k0_t7_loop.trips) : Fin 5 → Nat :=
  let c5 : Index := 5#32
  let c0_i32_1009 : BitVec 32 := 0#32
  let c1_i32_1011 : BitVec 32 := 1#32
  let arg19 : BitVec 32 := Scf.iv c0_i32_1009 c1_i32_1011 k0_t7
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1134 : Index := 0#32
  let c0_1135 : Index := 0#32
  ![5, v691.toNat, v692.toNat, 0, 0]
def k0_off21 (k0_t7 : Fin k0_t7_loop.trips) : Fin 3 → Nat :=
  let c0_i32_1009 : BitVec 32 := 0#32
  let c1_i32_1011 : BitVec 32 := 1#32
  let arg19 : BitVec 32 := Scf.iv c0_i32_1009 c1_i32_1011 k0_t7
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1150 : Index := 0#32
  ![v719.toNat, v720.toNat, 0]
@[reducible] def k0_t8_loop : Scf.Loop 32 :=
  let c0_i32_1121 : BitVec 32 := 0#32
  let c16_i32_1122 : BitVec 32 := 16#32
  let v668 : BitVec 32 := Scalar.addi c0_i32_1121 c16_i32_1122
  let c1_i32_1123 : BitVec 32 := 1#32
  ⟨c0_i32_1121, v668, c1_i32_1123⟩
def k0_off22 (k0_t8 : Fin k0_t8_loop.trips) : Fin 4 → Nat :=
  let c0_i32_1121 : BitVec 32 := 0#32
  let c1_i32_1123 : BitVec 32 := 1#32
  let arg19 : BitVec 32 := Scf.iv c0_i32_1121 c1_i32_1123 k0_t8
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v687 : Index := Scalar.indexCast v685
  let c8_i32_1132 : BitVec 32 := 8#32
  let v686 : BitVec 32 := Scalar.remsi arg19 c8_i32_1132
  let v688 : Index := Scalar.indexCast v686
  let c0 : Index := 0#32
  let c0_1133 : Index := 0#32
  ![v687.toNat, v688.toNat, 0, 0]
def k0_off23 (k0_t8 : Fin k0_t8_loop.trips) : Fin 5 → Nat :=
  let c6 : Index := 6#32
  let c0_i32_1121 : BitVec 32 := 0#32
  let c1_i32_1123 : BitVec 32 := 1#32
  let arg19 : BitVec 32 := Scf.iv c0_i32_1121 c1_i32_1123 k0_t8
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v691 : Index := Scalar.indexCast v685
  let c8_i32_1132 : BitVec 32 := 8#32
  let v686 : BitVec 32 := Scalar.remsi arg19 c8_i32_1132
  let v692 : Index := Scalar.indexCast v686
  let c0_1134 : Index := 0#32
  let c0_1135 : Index := 0#32
  ![6, v691.toNat, v692.toNat, 0, 0]
def k0_off24 (k0_t8 : Fin k0_t8_loop.trips) : Fin 3 → Nat :=
  let c0_i32_1121 : BitVec 32 := 0#32
  let c1_i32_1123 : BitVec 32 := 1#32
  let arg19 : BitVec 32 := Scf.iv c0_i32_1121 c1_i32_1123 k0_t8
  let c0_i32_1126 : BitVec 32 := 0#32
  let v670 : BitVec 1 := Scalar.cmpi .sgt arg19 c0_i32_1126
  let v671 : BitVec 32 := Scalar.extui v670
  let c0_i32_1127 : BitVec 32 := 0#32
  let v672 : BitVec 1 := Scalar.cmpi .slt arg19 c0_i32_1127
  let v673 : BitVec 32 := Scalar.extui v672
  let v674 : BitVec 32 := Scalar.subi v671 v673
  let c8_i32_1125 : BitVec 32 := 8#32
  let c0_i32_1128 : BitVec 32 := 0#32
  let v675 : BitVec 1 := Scalar.cmpi .sgt c8_i32_1125 c0_i32_1128
  let v676 : BitVec 32 := Scalar.extui v675
  let c0_i32_1129 : BitVec 32 := 0#32
  let v677 : BitVec 1 := Scalar.cmpi .slt c8_i32_1125 c0_i32_1129
  let v678 : BitVec 32 := Scalar.extui v677
  let v679 : BitVec 32 := Scalar.subi v676 v678
  let v680 : BitVec 1 := Scalar.cmpi .ne v674 v679
  let v681 : BitVec 32 := Scalar.remsi arg19 c8_i32_1125
  let c0_i32_1130 : BitVec 32 := 0#32
  let v682 : BitVec 1 := Scalar.cmpi .ne v681 c0_i32_1130
  let v683 : BitVec 1 := Scalar.andi v680 v682
  let v669 : BitVec 32 := Scalar.divsi arg19 c8_i32_1125
  let c1_i32_1131 : BitVec 32 := 1#32
  let v684 : BitVec 32 := Scalar.subi v669 c1_i32_1131
  let v685 : BitVec 32 := Scalar.select v683 v684 v669
  let v719 : Index := Scalar.indexCast v685
  let c8_i32_1132 : BitVec 32 := 8#32
  let v686 : BitVec 32 := Scalar.remsi arg19 c8_i32_1132
  let v720 : Index := Scalar.indexCast v686
  let c0_1150 : Index := 0#32
  ![v719.toNat, v720.toNat, 0]
abbrev stage0_0 : Fin 1 → Memref sig .tc .vmem S2x8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x8x64 : Shape := ⟨4, ![2, 4096, 8, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x64, .f32⟩
  | .hbm, ⟨2, _⟩ => ⟨S2x4096x8x64, .f32⟩
  | .hbm, ⟨3, _⟩ => ⟨S2x8x4096x4096, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S_, .f32⟩
  | .hbm, ⟨8, _⟩ => ⟨S2x8x4096, .f32⟩
  | .hbm, ⟨9, _⟩ => ⟨S2x8x4096x1, .f32⟩
  | .hbm, ⟨10, _⟩ => ⟨S2x8x4096x4096, .f32⟩
  | .hbm, ⟨11, _⟩ => ⟨S2x8x4096x4096, .f32⟩
  | .hbm, ⟨12, _⟩ => ⟨S2x8x4096x4096, .f32⟩
  | .hbm, ⟨13, _⟩ => ⟨S_, .f32⟩
  | .hbm, ⟨14, _⟩ => ⟨S2x8x4096, .f32⟩
  | .hbm, ⟨15, _⟩ => ⟨S2x8x4096x1, .f32⟩
  | .hbm, ⟨16, _⟩ => ⟨S2x8x4096x4096, .f32⟩
  | .hbm, ⟨17, _⟩ => ⟨S2x8x4096x4096, .f32⟩
  | .hbm, ⟨18, _⟩ => ⟨S2x8x64x4096, .f32⟩
  | .hbm, ⟨19, _⟩ => ⟨S2x4096x8x64, .f32⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ring.lean ====
module

public import proofs.«01_k».proof.Proof.Gen.KernelIdeal.Launch
public import proofs.«01_k».proof.Proof.Gen.KernelIdeal.Points

/-!
# The two rings: places, cells and what each landing hands over

Eight devices stand in a circle. Each cuts its block of `K` and of `V` in two halves; the right half travels to
the right, the left half to the left, seven hops each. A *step* names one copy of the schedule: which way it
travels, whether it carries a value block (or a key block), and its hop.

Cells of device `c`:

* the barrier cell. Waited on once, for two units. The unit labelled `d` is signalled by the neighbour on side
  `d`, and hands `c` the seven key and seven value slots of that neighbour that `c` will write (at any contents),
  with the knowledge that the neighbour's receive cells are open.
* the send cell of step `k`. Credited by `c`'s own copy once its source has been read, waited on by `c`. It hands
  back the half share of the source that the copy was lent, at the contents it was lent with.
* the receive cell of step `k`. Credited by the copy of the neighbour `c` receives from, waited on by `c`. It hands
  `c` the slot the copy wrote, holding the half block that started `hop + 1` devices upstream.

Every cell is used for one round only. A device starts its copies in the order hop by hop, and in each hop key
right, value right, key left, value left; the receive cells are ranked in the same order, above the barrier.
-/

@[expose] public section

noncomputable section

namespace Cert.RingAttention

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## Devices -/

/-- The device to the right. -/
def nxt (c : Dev nD) : Dev nD := ⟨(c.val + 1) % 8, Nat.mod_lt _ (by decide)⟩
/-- The device to the left. -/
def prv (c : Dev nD) : Dev nD := ⟨(c.val + 7) % 8, Nat.mod_lt _ (by decide)⟩

/-- Where the ring of direction `d` (`true`: to the right) sends. -/
def down : Bool → Dev nD → Dev nD
  | true, c => nxt c
  | false, c => prv c
/-- Where the ring of direction `d` receives from. -/
def up : Bool → Dev nD → Dev nD
  | true, c => prv c
  | false, c => nxt c

theorem up_down : ∀ (d : Bool) (c : Dev nD), up d (down d c) = c := by decide
theorem down_up : ∀ (d : Bool) (c : Dev nD), down d (up d c) = c := by decide

/-- A rotation of the circle. -/
def turn (d : Bool) : Dev nD ≃ Dev nD := ⟨down d, up d, up_down d, down_up d⟩

/-- Whose half block lands on `c` at hop `h` of direction `d`. -/
def origin (d : Bool) : ℕ → Dev nD → Dev nD
  | 0, c => up d c
  | h + 1, c => origin d h (up d c)

theorem origin_down (d : Bool) (h : ℕ) (c : Dev nD) : origin d (h + 1) (down d c) = origin d h c := by
  rw [origin, up_down]

theorem origin_zero_down (d : Bool) (c : Dev nD) : origin d 0 (down d c) = c := by
  rw [origin, up_down]

/-! ## Steps -/

/-- A copy of the schedule: its direction (`true`: right), whether it carries values, its hop. -/
abbrev Step : Type := Bool × Bool × Fin 7

/-- The chain's number: key right, value right, key left, value left. -/
def chain : Bool → Bool → ℕ
  | true, false => 0
  | true, true => 1
  | false, false => 2
  | false, true => 3

theorem chain_lt : ∀ d v : Bool, chain d v < 4 := by decide

/-- A step's place in the order of starting. -/
def place (k : Step) : ℕ := 4 * k.2.2.val + chain k.1 k.2.1

/-- The step at place `n`. -/
def stepAt (n : ℕ) : Step := (n % 4 / 2 == 0, n % 2 == 1, ⟨n / 4 % 7, Nat.mod_lt _ (by decide)⟩)

theorem stepAt_place : ∀ k : Step, stepAt (place k) = k := by decide
theorem place_stepAt : ∀ n : Fin 28, place (stepAt n.val) = n.val := by decide
theorem place_lt : ∀ k : Step, place k < 28 := by decide

/-- The semaphore a step's copy credits on the sender. -/
def sendS (k : Step) : DmaSem sig :=
  ⟨6 + 14 * chain k.1 k.2.1 + k.2.2.val, by have := chain_lt k.1 k.2.1; have := k.2.2.isLt; show _ < 62; omega⟩
/-- The semaphore a step's copy credits on the receiver. -/
def recvS (k : Step) : DmaSem sig :=
  ⟨13 + 14 * chain k.1 k.2.1 + k.2.2.val, by have := chain_lt k.1 k.2.1; have := k.2.2.isLt; show _ < 62; omega⟩

/-- The step a semaphore serves, and whether it is its send semaphore. -/
def roleOf : SemLoc sig → Option (Step × Bool)
  | .dma s => if 6 ≤ s.val then
      some (((s.val - 6) / 28 == 0, (s.val - 6) / 14 % 2 == 1, ⟨(s.val - 6) % 7, Nat.mod_lt _ (by decide)⟩),
        (s.val - 6) / 7 % 2 == 0)
    else none
  | _ => none

theorem roleOf_send : ∀ k : Step, roleOf (.dma (sendS k)) = some (k, true) := by decide
theorem roleOf_recv : ∀ k : Step, roleOf (.dma (recvS k)) = some (k, false) := by decide

/-- The barrier's semaphore. -/
abbrev barS : Sem sig := ⟨0, by decide⟩

theorem roleOf_bar : roleOf (.reg barS) = none := rfl

/-- The semaphores of the copies: send semaphores at `true`, receive semaphores at `false`. -/
def stepSem : Step × Bool → SemLoc sig
  | (k, true) => .dma (sendS k)
  | (k, false) => .dma (recvS k)

theorem roleOf_stepSem : ∀ x : Step × Bool, roleOf (stepSem x) = some x
  | (k, true) => roleOf_send k
  | (k, false) => roleOf_recv k

theorem stepSem_inj : Function.Injective stepSem := fun x y h =>
  Option.some.inj ((roleOf_stepSem x).symm.trans ((congrArg roleOf h).trans (roleOf_stepSem y)))

/-! ## Places -/

/-- The receive buffer of a chain, seven slots. -/
abbrev buf : Bool → Bool → Memref sig .tc .vmem S7x2x8x64x256 .bf16
  | true, false => Memref.whole cc0_scratch0
  | true, true => Memref.whole cc0_scratch1
  | false, false => Memref.whole cc0_scratch2
  | false, true => Memref.whole cc0_scratch3

/-- The staged half block a chain starts from. -/
abbrev stg : Bool → Bool → Memref sig .tc .vmem S2x8x64x256 .bf16
  | true, false => st0_1 t0_0
  | true, true => st0_2 t0_0
  | false, false => st0_3 t0_0
  | false, true => st0_4 t0_0

theorem slab_inb (h : Fin 7) : ∀ a, (![h.val, 0, 0, 0, 0] : Fin 5 → ℕ) a + S1x2x8x64x256.size a ≤ S7x2x8x64x256.size a := by
  revert h; decide

/-- One slot of a receive buffer. -/
abbrev slotOf (M : Memref sig .tc .vmem S7x2x8x64x256 .bf16) (h : Fin 7) : Memref sig .tc .vmem S2x8x64x256 .bf16 :=
  (M.slice (Rect.unit (s := S7x2x8x64x256) ![h.val, 0, 0, 0, 0] S1x2x8x64x256.size (slab_inb h)) (fun _ => rfl)).squeeze
    S2x8x64x256 squeezes_S1x2x8x64x256_S2x8x64x256

/-- The slot a step's copy writes. -/
abbrev slot (k : Step) : Memref sig .tc .vmem S2x8x64x256 .bf16 := slotOf (buf k.1 k.2.1) k.2.2

/-- A half block of keys or of values. -/
abbrev Half (F : FTy → Type) : Type := S2x8x64x256.Idx → Elt F .bf16

/-- A receive buffer with the half block `X` in every slot. -/
def spread (X : Half F) : S7x2x8x64x256.Idx → Elt F .bf16 :=
  fun i => X (fun a => Fin.cast (by revert a; decide) (i (Fin.succ a)))

/-- The units a copy of a half block credits. -/
abbrev N : ℕ := (slot (true, false, 0)).view.dmaCredit

theorem N_pos : 0 < N := View.dmaCredit_pos _ (by decide)

theorem slot_credit (k : Step) : (slot k).view.dmaCredit = N := by
  obtain ⟨d, v, h⟩ := k
  cases d <;> cases v <;> rfl

theorem stg_credit (d v : Bool) : (stg d v).view.dmaCredit = N := by
  cases d <;> cases v <;> rfl

end Cert.RingAttention

end
-- ==== Proof.Schedule.lean ====
module

public import proofs.«01_k».proof.Proof.Ring
public import Idealize.ShloMosaic.Lib.Rounds
public import Idealize.ShloMosaic.Lib.Rounds.Family
public import Idealize.ShloMosaic.Lib.Memref
public import Idealize.ShloMosaic.Lib.ValueLayout
public import Idealize.ShloMosaic.Lib.Tactic

/-!
# The schedule of the rings

The protocol of `Ring.lean` as a schedule of rounds: the duties of every cell, their amounts and payloads; what each
device owes at the start; and the ranks that make every wait allowed.
-/

@[expose] public section

noncomputable section

namespace Cert.RingAttention

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own and the rings' rounds. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Contents -/

/-- `spread X` as contents of the buffer of the slot of a step. -/
def slotBuf (c : Dev nD) : (k : Step) → Half F → Buf (Elt F) ((slot k).view.loc (c : Thread nD τ))
  | (true, false, _), X => spread X
  | (true, true, _), X => spread X
  | (false, false, _), X => spread X
  | (false, true, _), X => spread X

/-- `X` as contents of the staged half block of a chain. -/
def stgBuf (c : Dev nD) : (d v : Bool) → Half F → Buf (Elt F) ((stg d v).view.loc (c : Thread nD τ))
  | true, false, X => X
  | true, true, X => X
  | false, false, X => X
  | false, true, X => X

/-- A slot of `c` at the half block `X`. -/
def slotPts (c : Dev nD) (k : Step) (q : PosShare TreeShare) (X : Half F) : sProp 𝕄 :=
  (slot k).view.loc (c : Thread nD τ) ↦[(slot k).view.set]{q} slotBuf c k X

/-- A slot of `c`, whole, at any contents. -/
def slotAny (c : Dev nD) (k : Step) : sProp 𝕄 :=
  iprop(∃ f : Buf (Elt F) ((slot k).view.loc (c : Thread nD τ)), (slot k).view.loc (c : Thread nD τ) ↦[(slot k).view.set]{fullShare} f)

/-- A staged half block of `c` at `X`. -/
def stgPts (c : Dev nD) (d v : Bool) (q : PosShare TreeShare) (X : Half F) : sProp 𝕄 :=
  (stg d v).view.loc (c : Thread nD τ) ↦[(stg d v).view.set]{q} stgBuf c d v X

variable (B : Dev nD → Bool → Bool → Half F)

/-- The half block that lands at step `k` on `c`. -/
def landed (c : Dev nD) (k : Step) : Half F := B (origin k.1 k.2.2.val c) k.1 k.2.1

/-- The source of the copy `c` starts at step `k`, at its contents: the staged half block at hop 0, the slot of the
    hop before otherwise. -/
def srcPts (c : Dev nD) (q : PosShare TreeShare) : Step → sProp 𝕄
  | (d, v, ⟨0, _⟩) => stgPts c d v q (B c d v)
  | (d, v, ⟨h + 1, hh⟩) => slotPts c (d, v, ⟨h, Nat.lt_of_succ_lt hh⟩) q (landed B c (d, v, ⟨h, Nat.lt_of_succ_lt hh⟩))

/-! ## Cells -/

abbrev barCell (c : Dev nD) : GSem nD τ sig := ((c : Thread nD τ), .reg barS)
abbrev sendCell (c : Dev nD) (k : Step) : GSem nD τ sig := ((c : Thread nD τ), .dma (sendS k))
abbrev recvCell (c : Dev nD) (k : Step) : GSem nD τ sig := ((c : Thread nD τ), .dma (recvS k))

/-- The steps of one direction. -/
abbrev Half7 : Type := Bool × Fin 7

/-- What the unit labelled `d` hands `c`: the slots of its neighbour on side `d` that `c` writes, and that the
    neighbour's receive cells for them are open. -/
def barPay (c : Dev nD) (d : Bool) : sProp 𝕄 :=
  bigSep (Finset.univ : Finset Half7) fun x =>
    iprop(slotAny (F := F) (down d c) (d, x) ∗ reached ER (recvCell (down d c) (d, x)) 0)

/-- What the cell of a step hands over. -/
def stepPay (c : Dev nD) : Step × Bool → sProp 𝕄
  | (k, true) => srcPts B c (PosShare.left fullShare) k
  | (k, false) => slotPts c k fullShare (landed B c k)

/-- Round 0 of every cell: two duties of one unit on the barrier, one duty on a step's cell. -/
def Rd : Rounds.Schedule (GSem nD τ sig) Bool 𝕄 where
  duties g r := if r = 0 ∧ g.1.2 = .tc then
    (if g.2 = .reg barS then Finset.univ else if (roleOf g.2).isSome then {false} else ∅) else ∅
  unitless _ := False
  amount g _ _ := if g.2 = .reg barS then 1 else N
  payload g _ d :=
    if g.2 = .reg barS then barPay g.1.1 d
    else match roleOf g.2 with
      | some x => stepPay B g.1.1 x
      | none => iprop(emp)
  amount_pos g _ _ _ := by
    by_cases h : g.2 = .reg barS
    · rw [if_pos h]; exact Nat.one_pos
    · rw [if_neg h]; exact N_pos

instance slotPts_storable (c : Dev nD) (k : Step) (q : PosShare TreeShare) (X : Half F) :
    BI.Storable (upEmb : UEmb _ 𝕄) (slotPts (F := F) c k q X) := by
  unfold slotPts; infer_instance

instance srcPts_storable (c : Dev nD) (q : PosShare TreeShare) (k : Step) :
    BI.Storable (upEmb : UEmb _ 𝕄) (srcPts (F := F) B c q k) := by
  obtain ⟨d, v, ⟨h, hh⟩⟩ := k
  cases h with
  | zero => show BI.Storable _ (stgPts c d v q (B c d v)); unfold stgPts; infer_instance
  | succ h => show BI.Storable _ (slotPts c _ q _); infer_instance

instance stepPay_storable (c : Dev nD) (x : Step × Bool) : BI.Storable (upEmb : UEmb _ 𝕄) (stepPay (F := F) B c x) := by
  obtain ⟨k, b⟩ := x
  cases b
  · show BI.Storable _ (slotPts c _ _ _); infer_instance
  · show BI.Storable _ (srcPts B c _ k); infer_instance

instance Rd_storable (g : GSem nD τ sig) (r : ℕ) (d : Bool) : BI.Storable (upEmb : UEmb _ 𝕄) ((Rd (F := F) B).payload g r d) := by
  show BI.Storable upEmb (if g.2 = .reg barS then barPay g.1.1 d
    else match roleOf g.2 with
      | some x => stepPay B g.1.1 x
      | none => iprop(emp))
  split
  · unfold barPay slotAny; infer_instance
  · split <;> infer_instance

section Sched

variable (c : Dev nD) (x : Step × Bool)

abbrev stepCell : GSem nD τ sig := ((c : Thread nD τ), stepSem x)

theorem step_ne_bar : stepSem x ≠ .reg barS := fun h => by
  have := congrArg roleOf h; rw [roleOf_stepSem, roleOf_bar] at this; cases this

theorem duties_bar : (Rd (F := F) B).duties (barCell c) 0 = Finset.univ := by
  dsimp only [Rd]; rw [if_pos ⟨rfl, rfl⟩, if_pos rfl]
theorem duties_step : (Rd (F := F) B).duties (stepCell c x) 0 = {false} := by
  dsimp only [Rd, stepCell]; rw [if_pos ⟨rfl, rfl⟩, if_neg (step_ne_bar x), roleOf_stepSem]; rfl
theorem duties_later (g : GSem nD τ sig) : ∀ r, 1 ≤ r → (Rd (F := F) B).duties g r = ∅ := fun r hr => by
  dsimp only [Rd]; rw [if_neg (fun h => by omega)]

theorem amount_bar (d : Bool) : (Rd (F := F) B).amount (barCell c) 0 d = 1 := by
  dsimp only [Rd]; exact if_pos rfl
theorem amount_step (d : Bool) : (Rd (F := F) B).amount (stepCell c x) 0 d = N := by
  dsimp only [Rd, stepCell]; exact if_neg (step_ne_bar x)

theorem expect_bar : (Rd (F := F) B).expect (barCell c) 0 = 2 := by
  unfold Schedule.expect Schedule.amountOf
  rw [duties_bar]
  rw [Finset.sum_congr rfl (fun d _ => amount_bar B c d)]
  rfl
theorem expect_step : (Rd (F := F) B).expect (stepCell c x) 0 = N := by
  unfold Schedule.expect Schedule.amountOf; rw [duties_step, Finset.sum_singleton, amount_step]

theorem payload_bar (d : Bool) : (Rd (F := F) B).payload (barCell c) 0 d = barPay c d := by
  dsimp only [Rd]; exact if_pos rfl
theorem payload_step (d : Bool) : (Rd (F := F) B).payload (stepCell c x) 0 d = stepPay B c x := by
  dsimp only [Rd, stepCell]; rw [if_neg (step_ne_bar x), roleOf_stepSem]

theorem rest_bar : bigSep ((Rd (F := F) B).duties (barCell c) 0 \ ∅) (fun d => (Rd (F := F) B).payload (barCell c) 0 d)
    = iprop(barPay (F := F) c true ∗ barPay (F := F) c false) := by
  rw [Finset.sdiff_empty, duties_bar, show (Finset.univ : Finset Bool) = {true, false} from rfl,
    bigSep_insert (by decide), bigSep_singleton, payload_bar, payload_bar]; rfl
theorem rest_step : bigSep ((Rd (F := F) B).duties (stepCell c x) 0 \ ∅) (fun d => (Rd (F := F) B).payload (stepCell c x) 0 d)
    = stepPay B c x := by
  rw [Finset.sdiff_empty, duties_step, bigSep_singleton, payload_step]

end Sched

/-! ## What a device owes, and the ranks -/

/-- The receive credits of the last `j` copies of `c`. -/
def rem (c : Dev nD) : ℕ → CellTallies nD τ sig Unit
  | 0 => 0
  | j + 1 => rem c j + tallyAt (recvCell (down (stepAt (27 - j)).1 c) (stepAt (27 - j))) () N

/-- What `c` owes at the start: its twenty-eight copies and its two signals. -/
def O₀ (c : Dev nD) : CellTallies nD τ sig Unit :=
  rem c 28 + tallyAt (barCell (nxt c)) () 1 + tallyAt (barCell (prv c)) () 1

/-- The cells with a rank. -/
def L (g : GSem nD τ sig) : Finset Unit := if g.1.2 = .tc then {()} else ∅

/-- Ranks: receive cells by their place, above the barrier; everything else at the bottom. -/
def lv (g : GSem nD τ sig) (_ : Unit) : ℕ :=
  match roleOf g.2 with
  | some (k, false) => 2 + place k
  | some (_, true) => 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (c : Dev nD) (k : Step) : lv (sendCell c k) () = 0 := by unfold lv; rw [roleOf_send]
theorem lv_recv (c : Dev nD) (k : Step) : lv (recvCell c k) () = 2 + place k := by unfold lv; rw [roleOf_recv]

theorem rem_pos (c : Dev nD) : ∀ (j : ℕ) (g : GSem nD τ sig) (u : Unit), 0 < rem c j g u →
    ∃ p, p < 28 ∧ 28 ≤ p + j ∧ g = recvCell (down (stepAt p).1 c) (stepAt p)
  | 0, g, u, h => absurd h (Nat.lt_irrefl 0)
  | j + 1, g, u, h => by
    have h' : 0 < rem c j g u + tallyAt (recvCell (down (stepAt (27 - j)).1 c) (stepAt (27 - j))) () N g u := h
    by_cases h₁ : 0 < rem c j g u
    · obtain ⟨p, hp, hj, e⟩ := rem_pos c j g u h₁
      exact ⟨p, hp, by omega, e⟩
    · rw [tallyAt_apply] at h'
      split at h'
      · next e => exact ⟨27 - j, by omega, by omega, e.1⟩
      · omega

/-- A wait on a cell of rank at most `n` is allowed while nothing of rank at most `n` is owed. -/
theorem mayWait_of (c : Dev nD) (sm : SemLoc sig) (n : ℕ) (O : CellTallies nD τ sig Unit)
    (hs : lv ((c : Thread nD τ), sm) () ≤ n) (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- After `p` copies, a wait on a cell of rank below that of place `p` is allowed. -/
theorem mayWait_rem (c : Dev nD) (sm : SemLoc sig) (j : ℕ) (hj : j ≤ 28) (hs : lv ((c : Thread nD τ), sm) () + j < 30) :
    (levAts L lv : sProp 𝕄) ⊢ MayWait (c : Thread nD τ) sm () (rem c j) :=
  mayWait_of c sm (29 - j) (rem c j) (by omega) fun g u hg => by
    obtain ⟨p, hp, hpj, e⟩ := rem_pos c j g u hg
    subst e
    refine ⟨rfl, ?_⟩
    rw [lv_recv, place_stepAt ⟨p, hp⟩]
    show 29 - j < 2 + p
    omega

end Cert.RingAttention

end
-- ==== Proof.Head.lean ====
module

public import proofs.«01_k».proof.Proof.Schedule
public import Idealize.ShloMosaic.Lib.WritesUnit

/-!
# One head in one round

In a round a device meets, for each of its sixteen (batch, head) pairs, one half block of keys and values from the
right-going ring and one from the left-going ring. This module names what the round computes for one pair, what it
does to the whole accumulators, and what loads and stores of one pair's tile read and leave.
-/

@[expose] public section

noncomputable section

namespace Cert.RingAttention

open Cert.KernelIdeal Cert.KernelIdeal.Gen
open Idealize.ShloMosaic Idealize.ShloMosaic.TcCoe Idealize.ShloMosaic.ValueIdx

variable {F : FTy → Type} [FloatOps F]

/-! ## Tiles of one pair -/

/-- The queries of a device. -/
abbrev Queries (F : FTy → Type) : Type := S2x8x64x512.Idx → Elt F .bf16
/-- The numerators (and at the end the results) of a device. -/
abbrev Nums (F : FTy → Type) : Type := S2x8x64x512.Idx → Elt F .f32
/-- The denominators of a device. -/
abbrev Dens (F : FTy → Type) : Type := S2x8x512.Idx → Elt F .f32

/-- The tile of pair `(a, b)` of a four-axis array of 512 columns. -/
def tile {α : Type} (X : S2x8x64x512.Idx → α) (a : Fin 2) (b : Fin 8) : S64x512.Idx → α := fun i => X (ix4 a b (i 0) (i 1))
/-- The tile of pair `(a, b)` of a half block. -/
def htile {α : Type} (X : S2x8x64x256.Idx → α) (a : Fin 2) (b : Fin 8) : S64x256.Idx → α := fun i => X (ix4 a b (i 0) (i 1))
/-- The row of pair `(a, b)` of the denominators. -/
def row {α : Type} (X : S2x8x512.Idx → α) (a : Fin 2) (b : Fin 8) : S512.Idx → α := fun i => X (ix3 a b (i 0))

/-! ## The arithmetic of one pair -/

/-- The weights of a half block of keys for the queries: one row for a key, one column for a query. -/
def weights (k : FVec F S64x256 .bf16) (q : FVec F S64x512 .bf16) : FVec F S256x512 .f32 :=
  exp (matmul dot_S64x256_S64x512_S256x512_0_0_1_1_n_n none k q (constant S256x512 .f32 0x00000000#32))

/-- The sum of the weights of two half blocks. -/
def wsum (kR kL : FVec F S64x256 .bf16) (q : FVec F S64x512 .bf16) : FVec F S512 .f32 :=
  addf (multiReduction .add [0] S512 (weights kR q) 0x00000000#32 reduces_S256x512_S512 (.inl rfl) rfl)
    (multiReduction .add [0] S512 (weights kL q) 0x00000000#32 reduces_S256x512_S512 (.inl rfl) rfl)

/-- The values of one half block, weighted. -/
def weighted (k v : FVec F S64x256 .bf16) (q : FVec F S64x512 .bf16) : FVec F S64x512 .f32 :=
  matmul dot_S64x256_S256x512_S64x512_1_0_0_1_n_n none v (truncf .bf16 (weights k q) bitsLt_bf16_f32)
    (constant S64x512 .f32 0x00000000#32)

/-- The weighted values of two half blocks. -/
def vsum (kR vR kL vL : FVec F S64x256 .bf16) (q : FVec F S64x512 .bf16) : FVec F S64x512 .f32 :=
  addf (weighted kR vR q) (weighted kL vL q)

/-- Numerators over denominators. -/
def quot (o : FVec F S64x512 .f32) (l : FVec F S512 .f32) : FVec F S64x512 .f32 :=
  divf o (broadcastTo S64x512 (shapeCast S1x512 l shapeCasts_S512_S1x512) broadcasts_S1x512_S64x512)

/-! ## The rounds on the whole accumulators -/

/-- The half blocks met in one round: by direction, keys at `false` and values at `true`. -/
abbrev Met (F : FTy → Type) : Type := Bool → Bool → Half F

section Rounds

variable (Q : Queries F) (X : Met F)

/-- What a round adds to the denominators of a pair. -/
def lAdd (a : Fin 2) (b : Fin 8) : FVec F S512 .f32 :=
  wsum (htile (X true false) a b) (htile (X false false) a b) (tile Q a b)
/-- What a round adds to the numerators of a pair. -/
def oAdd (a : Fin 2) (b : Fin 8) : FVec F S64x512 .f32 :=
  vsum (htile (X true false) a b) (htile (X true true) a b) (htile (X false false) a b) (htile (X false true) a b) (tile Q a b)

/-- The accumulators after the first round. -/
def lInit : Dens F := fun i => lAdd Q X (i 0) (i 1) (ix1 (i 2))
def oInit : Nums F := fun i => oAdd Q X (i 0) (i 1) (ix2 (i 2) (i 3))
/-- The accumulators after a middle round. -/
def lStep (l : Dens F) : Dens F := fun i => addf (row l (i 0) (i 1)) (lAdd Q X (i 0) (i 1)) (ix1 (i 2))
def oStep (o : Nums F) : Nums F := fun i => addf (tile o (i 0) (i 1)) (oAdd Q X (i 0) (i 1)) (ix2 (i 2) (i 3))
/-- The results after the last round. -/
def oLast (l : Dens F) (o : Nums F) : Nums F := fun i =>
  quot (addf (tile o (i 0) (i 1)) (oAdd Q X (i 0) (i 1))) (addf (row l (i 0) (i 1)) (lAdd Q X (i 0) (i 1))) (ix2 (i 2) (i 3))

end Rounds

/-! ## Trips -/

/-- The pair of trip `t`. -/
def bat (t : Fin 16) : Fin 2 := ⟨t.val / 8, by have := t.isLt; omega⟩
def hd (t : Fin 16) : Fin 8 := ⟨t.val % 8, Nat.mod_lt _ (by decide)⟩

/-- The denominators half way: pairs before trip `t` at `new`, the others at `old`. -/
def lMid (new old : Dens F) (t : ℕ) : Dens F := fun i => if 8 * (i 0).val + (i 1).val < t then new i else old i
def oMid (new old : Nums F) (t : ℕ) : Nums F := fun i => if 8 * (i 0).val + (i 1).val < t then new i else old i

theorem lMid_zero (new old : Dens F) : lMid new old 0 = old := funext fun i => if_neg (Nat.not_lt_zero _)
theorem oMid_zero (new old : Nums F) : oMid new old 0 = old := funext fun i => if_neg (Nat.not_lt_zero _)
theorem lMid_last (new old : Dens F) : lMid new old 16 = new := funext fun i => if_pos (by
  have h0 : (i 0).val < 2 := (i 0).isLt
  have h1 : (i 1).val < 8 := (i 1).isLt
  omega)
theorem oMid_last (new old : Nums F) : oMid new old 16 = new := funext fun i => if_pos (by
  have h0 : (i 0).val < 2 := (i 0).isLt
  have h1 : (i 1).val < 8 := (i 1).isLt
  omega)

theorem row_lMid (new old : Dens F) (t : Fin 16) : row (lMid new old t.val) (bat t) (hd t) = row old (bat t) (hd t) :=
  funext fun i => if_neg (by
    show ¬ 8 * (t.val / 8) + t.val % 8 < t.val
    omega)
theorem tile_oMid (new old : Nums F) (t : Fin 16) : tile (oMid new old t.val) (bat t) (hd t) = tile old (bat t) (hd t) :=
  funext fun i => if_neg (by
    show ¬ 8 * (t.val / 8) + t.val % 8 < t.val
    omega)

/-! ## Loads and stores of one pair -/

abbrev qM : Memref sig .tc .vmem S2x8x64x512 .bf16 := Memref.whole cc0_stg0_0
abbrev oM : Memref sig .tc .vmem S2x8x64x512 .f32 := Memref.whole cc0_stg5_0
abbrev lM : Memref sig .tc .vmem S2x8x512 .f32 := Memref.whole cc0_scratch4

section Access

variable (a : Fin 2) (b : Fin 8)

/-- A load of the tile of a pair from a four-axis array of 512 columns. -/
theorem load_tile {e : EltTy} (M : Memref sig .tc .vmem S2x8x64x512 e)
    (inb : ∀ x, (![a.val, b.val, 0, 0] : Fin 4 → ℕ) x + S1x1x64x512.size x ≤ S2x8x64x512.size x) (f : M.view.ty.Contents (Elt F)) :
    shapeCast S64x512 (M.view.readAt (Elt F) (Rect.unit (s := S2x8x64x512) ![a.val, b.val, 0, 0] S1x1x64x512.size inb).toLoadRect f)
      shapeCasts_S1x1x64x512_S64x512 = tile (M.view.read (Elt F) f) a b := by
  funext i
  refine (shapeCast_apply _ _ i (ix4 (0 : Fin 1) (0 : Fin 1) (i 0) (i 1)) (by
    rw [Shape.rowMajor_val_four, Shape.rowMajor_val_two]
    show ((0 * 1 + 0) * 64 + (i 0).val) * 512 + (i 1).val = (i 0).val * 512 + (i 1).val
    omega)).trans ?_
  show M.view.read (Elt F) f _ = M.view.read (Elt F) f _
  refine congrArg _ (funext fun x => Fin.ext ?_)
  match x with
  | ⟨0, _⟩ => show a.val + 1 * 0 = a.val; omega
  | ⟨1, _⟩ => show b.val + 1 * 0 = b.val; omega
  | ⟨2, _⟩ => show 0 + 1 * (i 0).val = (i 0).val; omega
  | ⟨3, _⟩ => show 0 + 1 * (i 1).val = (i 1).val; omega

/-- A load of the tile of a pair from a staged half block. -/
theorem load_htile (M : Memref sig .tc .vmem S2x8x64x256 .bf16)
    (inb : ∀ x, (![a.val, b.val, 0, 0] : Fin 4 → ℕ) x + S1x1x64x256.size x ≤ S2x8x64x256.size x) (f : M.view.ty.Contents (Elt F)) :
    shapeCast S64x256 (M.view.readAt (Elt F) (Rect.unit (s := S2x8x64x256) ![a.val, b.val, 0, 0] S1x1x64x256.size inb).toLoadRect f)
      shapeCasts_S1x1x64x256_S64x256 = htile (M.view.read (Elt F) f) a b := by
  funext i
  refine (shapeCast_apply _ _ i (ix4 (0 : Fin 1) (0 : Fin 1) (i 0) (i 1)) (by
    rw [Shape.rowMajor_val_four, Shape.rowMajor_val_two]
    show ((0 * 1 + 0) * 64 + (i 0).val) * 256 + (i 1).val = (i 0).val * 256 + (i 1).val
    omega)).trans ?_
  show M.view.read (Elt F) f _ = M.view.read (Elt F) f _
  refine congrArg _ (funext fun x => Fin.ext ?_)
  match x with
  | ⟨0, _⟩ => show a.val + 1 * 0 = a.val; omega
  | ⟨1, _⟩ => show b.val + 1 * 0 = b.val; omega
  | ⟨2, _⟩ => show 0 + 1 * (i 0).val = (i 0).val; omega
  | ⟨3, _⟩ => show 0 + 1 * (i 1).val = (i 1).val; omega

/-- A load of the tile of a pair from a slot of a receive buffer. -/
theorem load_slot (M : Memref sig .tc .vmem S7x2x8x64x256 .bf16) (h : Fin 7) (X : Half F)
    (inb : ∀ x, (![h.val, a.val, b.val, 0, 0] : Fin 5 → ℕ) x + S1x1x1x64x256.size x ≤ S7x2x8x64x256.size x)
    (f : M.view.ty.Contents (Elt F)) (hf : M.view.read (Elt F) f = spread X) :
    shapeCast S64x256 (M.view.readAt (Elt F) (Rect.unit (s := S7x2x8x64x256) ![h.val, a.val, b.val, 0, 0] S1x1x1x64x256.size inb).toLoadRect f)
      shapeCasts_S1x1x1x64x256_S64x256 = htile X a b := by
  funext i
  refine (shapeCast_apply _ _ i (ix5 (0 : Fin 1) (0 : Fin 1) (0 : Fin 1) (i 0) (i 1)) (by
    rw [Shape.rowMajor_val_five, Shape.rowMajor_val_two]
    show (((0 * 1 + 0) * 1 + 0) * 64 + (i 0).val) * 256 + (i 1).val = (i 0).val * 256 + (i 1).val
    omega)).trans ?_
  show M.view.read (Elt F) f _ = _
  rw [hf]
  show X _ = X _
  refine congrArg _ (funext fun x => Fin.ext ?_)
  match x with
  | ⟨0, _⟩ => show a.val + 1 * 0 = a.val; omega
  | ⟨1, _⟩ => show b.val + 1 * 0 = b.val; omega
  | ⟨2, _⟩ => show 0 + 1 * (i 0).val = (i 0).val; omega
  | ⟨3, _⟩ => show 0 + 1 * (i 1).val = (i 1).val; omega

/-- A load of the row of a pair from the denominators. -/
theorem load_row (M : Memref sig .tc .vmem S2x8x512 .f32)
    (inb : ∀ x, (![a.val, b.val, 0] : Fin 3 → ℕ) x + S1x1x512.size x ≤ S2x8x512.size x) (f : M.view.ty.Contents (Elt F)) :
    shapeCast S512 (M.view.readAt (Elt F) (Rect.unit (s := S2x8x512) ![a.val, b.val, 0] S1x1x512.size inb).toLoadRect f)
      shapeCasts_S1x1x512_S512 = row (M.view.read (Elt F) f) a b := by
  funext i
  refine (shapeCast_apply _ _ i (ix3 (0 : Fin 1) (0 : Fin 1) (i 0)) (by
    rw [Shape.rowMajor_val_three, Shape.rowMajor_val_one]
    show (0 * 1 + 0) * 512 + (i 0).val = (i 0).val
    omega)).trans ?_
  show M.view.read (Elt F) f _ = M.view.read (Elt F) f _
  refine congrArg _ (funext fun x => Fin.ext ?_)
  match x with
  | ⟨0, _⟩ => show a.val + 1 * 0 = a.val; omega
  | ⟨1, _⟩ => show b.val + 1 * 0 = b.val; omega
  | ⟨2, _⟩ => show 0 + 1 * (i 0).val = (i 0).val; omega

end Access

/-- Storing the tile of trip `t` moves the numerators from before the trip to after it. -/
theorem store_tile (M : Memref sig .tc .vmem S2x8x64x512 .f32) (f : M.view.ty.Contents (Elt F)) (new old : Nums F) (t : Fin 16)
    (hf : M.view.read (Elt F) f = oMid new old t.val) (v : FVec F S64x512 .f32) (hv : v = tile new (bat t) (hd t))
    (inb : ∀ x, (![(bat t).val, (hd t).val, 0, 0] : Fin 4 → ℕ) x + S1x1x64x512.size x ≤ S2x8x64x512.size x) :
    M.view.read (Elt F) (M.view.writes (Elt F) f
      [⟨Rect.unit (s := S2x8x64x512) ![(bat t).val, (hd t).val, 0, 0] S1x1x64x512.size inb,
        shapeCast S1x1x64x512 v shapeCasts_S64x512_S1x1x64x512⟩]) = oMid new old (t.val + 1) := by
  funext y
  have h1 : (y 1).val < 8 := (y 1).isLt
  by_cases hy : (y 0).val = t.val / 8 ∧ (y 1).val = t.val % 8
  · rw [View.read_writes_cons_unit_of_mem M.view _ inb _ [] y (ix4 (0 : Fin 1) (0 : Fin 1) (y 2) (y 3)) rfl (fun x => by
      match x with
      | ⟨0, _⟩ => exact hy.1
      | ⟨1, _⟩ => exact hy.2
      | ⟨2, _⟩ => show (y 2).val = 0 + (y 2).val; omega
      | ⟨3, _⟩ => show (y 3).val = 0 + (y 3).val; omega)]
    refine (shapeCast_apply _ _ _ (ix2 (y 2) (y 3)) (by
      rw [Shape.rowMajor_val_four, Shape.rowMajor_val_two]
      show (y 2).val * 512 + (y 3).val = ((0 * 1 + 0) * 64 + (y 2).val) * 512 + (y 3).val
      omega)).trans ?_
    rw [hv]
    unfold oMid
    rw [if_pos (by omega)]
    show new _ = new _
    refine congrArg _ (funext fun x => Fin.ext ?_)
    match x with
    | ⟨0, _⟩ => exact hy.1.symm
    | ⟨1, _⟩ => exact hy.2.symm
    | ⟨2, _⟩ => rfl
    | ⟨3, _⟩ => rfl
  · have hne : ∃ x : Fin 4, (y x).val < (![(bat t).val, (hd t).val, 0, 0] : Fin 4 → ℕ) x
        ∨ (![(bat t).val, (hd t).val, 0, 0] : Fin 4 → ℕ) x + S1x1x64x512.size x ≤ (y x).val := by
      by_cases h0 : (y 0).val = t.val / 8
      · refine ⟨1, ?_⟩
        show (y 1).val < t.val % 8 ∨ t.val % 8 + 1 ≤ (y 1).val
        have := fun e => hy ⟨h0, e⟩
        omega
      · refine ⟨0, ?_⟩
        show (y 0).val < t.val / 8 ∨ t.val / 8 + 1 ≤ (y 0).val
        omega
    obtain ⟨x, hx⟩ := hne
    rw [View.read_writes_cons_unit_of_not_mem M.view _ inb _ [] y rfl x hx]
    rw [View.writes_nil, hf]
    unfold oMid
    refine if_congr ?_ rfl rfl
    constructor <;> intro h <;> omega

/-- Storing the row of trip `t` moves the denominators from before the trip to after it. -/
theorem store_row (M : Memref sig .tc .vmem S2x8x512 .f32) (f : M.view.ty.Contents (Elt F)) (new old : Dens F) (t : Fin 16)
    (hf : M.view.read (Elt F) f = lMid new old t.val) (v : FVec F S512 .f32) (hv : v = row new (bat t) (hd t))
    (inb : ∀ x, (![(bat t).val, (hd t).val, 0] : Fin 3 → ℕ) x + S1x1x512.size x ≤ S2x8x512.size x) :
    M.view.read (Elt F) (M.view.writes (Elt F) f
      [⟨Rect.unit (s := S2x8x512) ![(bat t).val, (hd t).val, 0] S1x1x512.size inb,
        shapeCast S1x1x512 v shapeCasts_S512_S1x1x512⟩]) = lMid new old (t.val + 1) := by
  funext y
  have h1 : (y 1).val < 8 := (y 1).isLt
  by_cases hy : (y 0).val = t.val / 8 ∧ (y 1).val = t.val % 8
  · rw [View.read_writes_cons_unit_of_mem M.view _ inb _ [] y (ix3 (0 : Fin 1) (0 : Fin 1) (y 2)) rfl (fun x => by
      match x with
      | ⟨0, _⟩ => exact hy.1
      | ⟨1, _⟩ => exact hy.2
      | ⟨2, _⟩ => show (y 2).val = 0 + (y 2).val; omega)]
    refine (shapeCast_apply _ _ _ (ix1 (y 2)) (by
      rw [Shape.rowMajor_val_three, Shape.rowMajor_val_one]
      show (y 2).val = (0 * 1 + 0) * 512 + (y 2).val
      omega)).trans ?_
    rw [hv]
    unfold lMid
    rw [if_pos (by omega)]
    show new _ = new _
    refine congrArg _ (funext fun x => Fin.ext ?_)
    match x with
    | ⟨0, _⟩ => exact hy.1.symm
    | ⟨1, _⟩ => exact hy.2.symm
    | ⟨2, _⟩ => rfl
  · have hne : ∃ x : Fin 3, (y x).val < (![(bat t).val, (hd t).val, 0] : Fin 3 → ℕ) x
        ∨ (![(bat t).val, (hd t).val, 0] : Fin 3 → ℕ) x + S1x1x512.size x ≤ (y x).val := by
      by_cases h0 : (y 0).val = t.val / 8
      · refine ⟨1, ?_⟩
        show (y 1).val < t.val % 8 ∨ t.val % 8 + 1 ≤ (y 1).val
        have := fun e => hy ⟨h0, e⟩
        omega
      · refine ⟨0, ?_⟩
        show (y 0).val < t.val / 8 ∨ t.val / 8 + 1 ≤ (y 0).val
        omega
    obtain ⟨x, hx⟩ := hne
    rw [View.read_writes_cons_unit_of_not_mem M.view _ inb _ [] y rfl x hx]
    rw [View.writes_nil, hf]
    unfold lMid
    refine if_congr ?_ rfl rfl
    constructor <;> intro h <;> omega

end Cert.RingAttention

end
-- ==== Proof.Trips.lean ====
module

public import proofs.«01_k».proof.Proof.Head
public import proofs.«01_k».proof.Proof.Gen.KernelIdeal.Skeleton

/-!
# The loops over pairs

The kernel runs eight loops of sixteen trips, one per round. The first takes the staged half blocks and starts the
accumulators, the six middle ones take a slot of each receive buffer and add to them, the last adds and divides. The
six middle loops are one program at different slots, so their rule is proved once.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- The programs of the kernel's core. -/
abbrev Code (F : FTy → Type) [FloatOps F] : Type 1 := Prog (TpuEff nD τ sig (Elt F) Λ₀ .tc) Unit

/-! ## Offsets -/

abbrev Trip : Type := Fin k0_t1_loop.trips

theorem trips_eq : k0_t1_loop.trips = 16 := by decide

/-- The trip as a number below sixteen. -/
def num (k : Trip) : Fin 16 := ⟨k.val, trips_eq ▸ k.isLt⟩

/-- Offsets of the tile, the half tile and the row of a pair, and of its tile in a slot. -/
abbrev tileOff (t : Fin 16) : Fin 4 → ℕ := ![(bat t).val, (hd t).val, 0, 0]
abbrev rowOff (t : Fin 16) : Fin 3 → ℕ := ![(bat t).val, (hd t).val, 0]
abbrev slotOff (h : Fin 7) (t : Fin 16) : Fin 5 → ℕ := ![h.val, (bat t).val, (hd t).val, 0, 0]

theorem off1_eq : ∀ k : Trip, k0_off1 k = tileOff (num k) := by decide +kernel
theorem off2_eq : ∀ k : Trip, k0_off2 k = tileOff (num k) := by decide +kernel
theorem off3_eq : ∀ k : Trip, k0_off3 k = rowOff (num k) := by decide +kernel
theorem off4_eq : ∀ k : Trip, k0_off4 k = tileOff (num k) := by decide +kernel
theorem off5_eq : ∀ k : Trip, k0_off5 k = slotOff 0 (num k) := by decide +kernel
theorem off6_eq : ∀ k : Trip, k0_off6 k = rowOff (num k) := by decide +kernel
theorem off7_eq : ∀ k : Trip, k0_off7 k = tileOff (num k) := by decide +kernel
theorem off8_eq : ∀ k : Trip, k0_off8 k = slotOff 1 (num k) := by decide +kernel
theorem off9_eq : ∀ k : Trip, k0_off9 k = rowOff (num k) := by decide +kernel
theorem off10_eq : ∀ k : Trip, k0_off10 k = tileOff (num k) := by decide +kernel
theorem off11_eq : ∀ k : Trip, k0_off11 k = slotOff 2 (num k) := by decide +kernel
theorem off12_eq : ∀ k : Trip, k0_off12 k = rowOff (num k) := by decide +kernel
theorem off13_eq : ∀ k : Trip, k0_off13 k = tileOff (num k) := by decide +kernel
theorem off14_eq : ∀ k : Trip, k0_off14 k = slotOff 3 (num k) := by decide +kernel
theorem off15_eq : ∀ k : Trip, k0_off15 k = rowOff (num k) := by decide +kernel
theorem off16_eq : ∀ k : Trip, k0_off16 k = tileOff (num k) := by decide +kernel
theorem off17_eq : ∀ k : Trip, k0_off17 k = slotOff 4 (num k) := by decide +kernel
theorem off18_eq : ∀ k : Trip, k0_off18 k = rowOff (num k) := by decide +kernel
theorem off19_eq : ∀ k : Trip, k0_off19 k = tileOff (num k) := by decide +kernel
theorem off20_eq : ∀ k : Trip, k0_off20 k = slotOff 5 (num k) := by decide +kernel
theorem off21_eq : ∀ k : Trip, k0_off21 k = rowOff (num k) := by decide +kernel
theorem off22_eq : ∀ k : Trip, k0_off22 k = tileOff (num k) := by decide +kernel
theorem off23_eq : ∀ k : Trip, k0_off23 k = slotOff 6 (num k) := by decide +kernel
theorem off24_eq : ∀ k : Trip, k0_off24 k = rowOff (num k) := by decide +kernel

/-- In-bounds facts at offsets given as a parameter. -/
abbrev TileIn (o : Fin 4 → ℕ) : Prop := ∀ x, o x + S1x1x64x512.size x ≤ S2x8x64x512.size x
abbrev HalfIn (o : Fin 4 → ℕ) : Prop := ∀ x, o x + S1x1x64x256.size x ≤ S2x8x64x256.size x
abbrev RowIn (o : Fin 3 → ℕ) : Prop := ∀ x, o x + S1x1x512.size x ≤ S2x8x512.size x
abbrev SlotIn (o : Fin 5 → ℕ) : Prop := ∀ x, o x + S1x1x1x64x256.size x ≤ S7x2x8x64x256.size x

abbrev tileRect (o : Fin 4 → ℕ) (h : TileIn o) : Rect S2x8x64x512 := Rect.unit (s := S2x8x64x512) o S1x1x64x512.size h
abbrev halfRect (o : Fin 4 → ℕ) (h : HalfIn o) : Rect S2x8x64x256 := Rect.unit (s := S2x8x64x256) o S1x1x64x256.size h
abbrev rowRect (o : Fin 3 → ℕ) (h : RowIn o) : Rect S2x8x512 := Rect.unit (s := S2x8x512) o S1x1x512.size h
abbrev slotRect (o : Fin 5 → ℕ) (h : SlotIn o) : Rect S7x2x8x64x256 := Rect.unit (s := S7x2x8x64x256) o S1x1x1x64x256.size h

/-! ## The trip programs -/

/-- A trip of the first loop. -/
def firstTrip (oq : Fin 4 → ℕ) (hq : TileIn oq) (ok : Fin 4 → ℕ) (hk : HalfIn ok) (ol : Fin 3 → ℕ) (hl : RowIn ol) : Code F := do
  let q : Vec F S1x1x64x512 .bf16 ← Prog.lift (.load qM (tileRect oq hq).toLoadRect (View.loadsAt_vmem h_S1x1x64x512))
  let kR : Vec F S1x1x64x256 .bf16 ← Prog.lift (.load (stg true false) (halfRect ok hk).toLoadRect (View.loadsAt_vmem h_S1x1x64x256))
  let vR : Vec F S1x1x64x256 .bf16 ← Prog.lift (.load (stg true true) (halfRect ok hk).toLoadRect (View.loadsAt_vmem h_S1x1x64x256))
  let kL : Vec F S1x1x64x256 .bf16 ← Prog.lift (.load (stg false false) (halfRect ok hk).toLoadRect (View.loadsAt_vmem h_S1x1x64x256))
  let vL : Vec F S1x1x64x256 .bf16 ← Prog.lift (.load (stg false true) (halfRect ok hk).toLoadRect (View.loadsAt_vmem h_S1x1x64x256))
  let _ : Vec F S1x1x512 .f32 ← Prog.lift (.load lM (rowRect ol hl).toLoadRect (View.loadsAt_vmem h_S1x1x512))
  Prog.lift (.store lM (rowRect ol hl)
    (shapeCast S1x1x512
      (wsum (shapeCast S64x256 kR shapeCasts_S1x1x64x256_S64x256) (shapeCast S64x256 kL shapeCasts_S1x1x64x256_S64x256)
        (shapeCast S64x512 q shapeCasts_S1x1x64x512_S64x512)) shapeCasts_S512_S1x1x512)
    Finset.univ (View.stores_vmem_bits_univ h_S1x1x512 rfl) (.inl rfl))
  let _ : Vec F S1x1x64x512 .f32 ← Prog.lift (.load oM (tileRect oq hq).toLoadRect (View.loadsAt_vmem h_S1x1x64x512))
  Prog.lift (.store oM (tileRect oq hq)
    (shapeCast S1x1x64x512
      (vsum (shapeCast S64x256 kR shapeCasts_S1x1x64x256_S64x256) (shapeCast S64x256 vR shapeCasts_S1x1x64x256_S64x256)
        (shapeCast S64x256 kL shapeCasts_S1x1x64x256_S64x256) (shapeCast S64x256 vL shapeCasts_S1x1x64x256_S64x256)
        (shapeCast S64x512 q shapeCasts_S1x1x64x512_S64x512)) shapeCasts_S64x512_S1x1x64x512)
    Finset.univ (View.stores_vmem_bits_univ h_S1x1x64x512 rfl) (.inl rfl))
  pure ⟨⟩

/-- A trip of a middle loop. -/
def midTrip (oq : Fin 4 → ℕ) (hq : TileIn oq) (os : Fin 5 → ℕ) (hs : SlotIn os) (ol : Fin 3 → ℕ) (hl : RowIn ol) : Code F := do
  let q : Vec F S1x1x64x512 .bf16 ← Prog.lift (.load qM (tileRect oq hq).toLoadRect (View.loadsAt_vmem h_S1x1x64x512))
  let kR : Vec F S1x1x1x64x256 .bf16 ← Prog.lift (.load (buf true false) (slotRect os hs).toLoadRect (View.loadsAt_vmem h_S1x1x1x64x256))
  let vR : Vec F S1x1x1x64x256 .bf16 ← Prog.lift (.load (buf true true) (slotRect os hs).toLoadRect (View.loadsAt_vmem h_S1x1x1x64x256))
  let kL : Vec F S1x1x1x64x256 .bf16 ← Prog.lift (.load (buf false false) (slotRect os hs).toLoadRect (View.loadsAt_vmem h_S1x1x1x64x256))
  let vL : Vec F S1x1x1x64x256 .bf16 ← Prog.lift (.load (buf false true) (slotRect os hs).toLoadRect (View.loadsAt_vmem h_S1x1x1x64x256))
  let l : Vec F S1x1x512 .f32 ← Prog.lift (.load lM (rowRect ol hl).toLoadRect (View.loadsAt_vmem h_S1x1x512))
  let o : Vec F S1x1x64x512 .f32 ← Prog.lift (.load oM (tileRect oq hq).toLoadRect (View.loadsAt_vmem h_S1x1x64x512))
  let _ : Vec F S1x1x512 .f32 ← Prog.lift (.load lM (rowRect ol hl).toLoadRect (View.loadsAt_vmem h_S1x1x512))
  Prog.lift (.store lM (rowRect ol hl)
    (shapeCast S1x1x512
      (addf (shapeCast S512 l shapeCasts_S1x1x512_S512)
        (wsum (shapeCast S64x256 kR shapeCasts_S1x1x1x64x256_S64x256) (shapeCast S64x256 kL shapeCasts_S1x1x1x64x256_S64x256)
          (shapeCast S64x512 q shapeCasts_S1x1x64x512_S64x512))) shapeCasts_S512_S1x1x512)
    Finset.univ (View.stores_vmem_bits_univ h_S1x1x512 rfl) (.inl rfl))
  let _ : Vec F S1x1x64x512 .f32 ← Prog.lift (.load oM (tileRect oq hq).toLoadRect (View.loadsAt_vmem h_S1x1x64x512))
  Prog.lift (.store oM (tileRect oq hq)
    (shapeCast S1x1x64x512
      (addf (shapeCast S64x512 o shapeCasts_S1x1x64x512_S64x512)
        (vsum (shapeCast S64x256 kR shapeCasts_S1x1x1x64x256_S64x256) (shapeCast S64x256 vR shapeCasts_S1x1x1x64x256_S64x256)
          (shapeCast S64x256 kL shapeCasts_S1x1x1x64x256_S64x256) (shapeCast S64x256 vL shapeCasts_S1x1x1x64x256_S64x256)
          (shapeCast S64x512 q shapeCasts_S1x1x64x512_S64x512))) shapeCasts_S64x512_S1x1x64x512)
    Finset.univ (View.stores_vmem_bits_univ h_S1x1x64x512 rfl) (.inl rfl))
  pure ⟨⟩

/-- A trip of the last loop. -/
def lastTrip (oq : Fin 4 → ℕ) (hq : TileIn oq) (os : Fin 5 → ℕ) (hs : SlotIn os) (ol : Fin 3 → ℕ) (hl : RowIn ol) : Code F := do
  let q : Vec F S1x1x64x512 .bf16 ← Prog.lift (.load qM (tileRect oq hq).toLoadRect (View.loadsAt_vmem h_S1x1x64x512))
  let kR : Vec F S1x1x1x64x256 .bf16 ← Prog.lift (.load (buf true false) (slotRect os hs).toLoadRect (View.loadsAt_vmem h_S1x1x1x64x256))
  let vR : Vec F S1x1x1x64x256 .bf16 ← Prog.lift (.load (buf true true) (slotRect os hs).toLoadRect (View.loadsAt_vmem h_S1x1x1x64x256))
  let kL : Vec F S1x1x1x64x256 .bf16 ← Prog.lift (.load (buf false false) (slotRect os hs).toLoadRect (View.loadsAt_vmem h_S1x1x1x64x256))
  let vL : Vec F S1x1x1x64x256 .bf16 ← Prog.lift (.load (buf false true) (slotRect os hs).toLoadRect (View.loadsAt_vmem h_S1x1x1x64x256))
  let l : Vec F S1x1x512 .f32 ← Prog.lift (.load lM (rowRect ol hl).toLoadRect (View.loadsAt_vmem h_S1x1x512))
  let o : Vec F S1x1x64x512 .f32 ← Prog.lift (.load oM (tileRect oq hq).toLoadRect (View.loadsAt_vmem h_S1x1x64x512))
  let _ : Vec F S1x1x64x512 .f32 ← Prog.lift (.load oM (tileRect oq hq).toLoadRect (View.loadsAt_vmem h_S1x1x64x512))
  Prog.lift (.store oM (tileRect oq hq)
    (shapeCast S1x1x64x512
      (quot
        (addf (shapeCast S64x512 o shapeCasts_S1x1x64x512_S64x512)
          (vsum (shapeCast S64x256 kR shapeCasts_S1x1x1x64x256_S64x256) (shapeCast S64x256 vR shapeCasts_S1x1x1x64x256_S64x256)
            (shapeCast S64x256 kL shapeCasts_S1x1x1x64x256_S64x256) (shapeCast S64x256 vL shapeCasts_S1x1x1x64x256_S64x256)
            (shapeCast S64x512 q shapeCasts_S1x1x64x512_S64x512)))
        (addf (shapeCast S512 l shapeCasts_S1x1x512_S512)
          (wsum (shapeCast S64x256 kR shapeCasts_S1x1x1x64x256_S64x256) (shapeCast S64x256 kL shapeCasts_S1x1x1x64x256_S64x256)
            (shapeCast S64x512 q shapeCasts_S1x1x64x512_S64x512)))) shapeCasts_S64x512_S1x1x64x512)
    Finset.univ (View.stores_vmem_bits_univ h_S1x1x64x512 rfl) (.inl rfl))
  pure ⟨⟩

section Bodies

variable (arg11 arg12 arg13 arg14 arg15 arg16 arg17 arg18 : DmaSems sig S7) (d0 : Dev nD) (v5 v7 v302 w1 w2 : BitVec 32)
variable (h0 : qM.IsWhole) (h1 : (stg true false).IsWhole) (h2 : (stg true true).IsWhole) (h3 : (stg false false).IsWhole)
  (h4 : (stg false true).IsWhole) (h5 : oM.IsWhole) (h6 : (buf true false).IsWhole) (h7 : (buf true true).IsWhole)
  (h8 : (buf false false).IsWhole) (h9 : (buf false true).IsWhole) (h10 : lM.IsWhole)

theorem body1_eq (k : Trip) : k0_t1_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18 d0 v5 k ⟨⟩
    = firstTrip (k0_off1 k) (k0_off1_inb k) (k0_off2 k) (k0_off2_inb k) (k0_off3 k) (k0_off3_inb k) := by
  unfold k0_t1_body
  rw [k0_part1_eq_skeleton]
  rfl

theorem body2_eq (k : Trip) : k0_t2_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18 d0 v5 v7 k ⟨⟩
    = midTrip (k0_off4 k) (k0_off4_inb k) (k0_off5 k) (k0_off5_inb k) (k0_off6 k) (k0_off6_inb k) := by
  unfold k0_t2_body
  rw [k0_part2_eq_skeleton]
  rfl

theorem body3_eq (k : Trip) : k0_t3_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18 d0 v7 k ⟨⟩
    = midTrip (k0_off7 k) (k0_off7_inb k) (k0_off8 k) (k0_off8_inb k) (k0_off9 k) (k0_off9_inb k) := by
  unfold k0_t3_body
  rw [k0_part3_eq_skeleton]
  rfl

theorem body4_eq (k : Trip) : k0_t4_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18 d0 v5 v302 k ⟨⟩
    = midTrip (k0_off10 k) (k0_off10_inb k) (k0_off11 k) (k0_off11_inb k) (k0_off12 k) (k0_off12_inb k) := by
  unfold k0_t4_body
  rw [k0_part4_eq_skeleton]
  rfl

theorem body5_eq (k : Trip) : k0_t5_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18 d0 v5 v7 w1 k ⟨⟩
    = midTrip (k0_off13 k) (k0_off13_inb k) (k0_off14 k) (k0_off14_inb k) (k0_off15 k) (k0_off15_inb k) := by
  unfold k0_t5_body
  rw [k0_part5_eq_skeleton]
  rfl

theorem body6_eq (k : Trip) : k0_t6_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18 v7 w1 w2 k ⟨⟩
    = midTrip (k0_off16 k) (k0_off16_inb k) (k0_off17 k) (k0_off17_inb k) (k0_off18 k) (k0_off18_inb k) := by
  unfold k0_t6_body
  rw [k0_part6_eq_skeleton]
  rfl

theorem body7_eq (k : Trip) : k0_t7_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18 d0 v5 k ⟨⟩
    = midTrip (k0_off19 k) (k0_off19_inb k) (k0_off20 k) (k0_off20_inb k) (k0_off21 k) (k0_off21_inb k) := by
  unfold k0_t7_body
  rw [k0_part7_eq_skeleton]
  rfl

theorem body8_eq (k : Trip) : k0_t8_body (F := F) qM h0 (stg true false) h1 (stg true true) h2 (stg false false) h3 (stg false true) h4
    oM h5 (buf true false) h6 (buf true true) h7 (buf false false) h8 (buf false true) h9 lM h10
    arg11 arg12 arg13 arg14 arg15 arg16 arg17 arg18  k ⟨⟩
    = lastTrip (k0_off22 k) (k0_off22_inb k) (k0_off23 k) (k0_off23_inb k) (k0_off24 k) (k0_off24_inb k) := by
  unfold k0_t8_body
  rw [k0_part8_eq_skeleton]
  rfl

end Bodies

end Cert.RingAttention

end
-- ==== Proof.Code.lean ====
module

public import proofs.«01_k».proof.Proof.Schedule
public import proofs.«01_k».proof.Proof.Trips

/-!
# The kernel's core as rounds

The body of the kernel, its forty generated parts read as one program: two signals, a wait, the four copies of hop 0,
the first loop, and then for each hop the waits and starts of the four chains and the loop over the slots of that hop.
-/

@[expose] public section

noncomputable section

namespace Cert.RingAttention

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the copy of a step reads: the staged half block at hop 0, the slot of the hop before otherwise. -/
abbrev sourceM : Step → Memref sig .tc .vmem S2x8x64x256 .bf16
  | (d, v, ⟨0, _⟩) => stg d v
  | (d, v, ⟨h + 1, hh⟩) => slot (d, v, ⟨h, Nat.lt_of_succ_lt hh⟩)

theorem buf_whole : ∀ d v, (buf d v).IsWhole
  | true, false => Memref.isWhole_whole _
  | true, true => Memref.isWhole_whole _
  | false, false => Memref.isWhole_whole _
  | false, true => Memref.isWhole_whole _
theorem stg_whole : ∀ d v, (stg d v).IsWhole
  | true, false => Memref.isWhole_whole _
  | true, true => Memref.isWhole_whole _
  | false, false => Memref.isWhole_whole _
  | false, true => Memref.isWhole_whole _

theorem slot_exact (k : Step) : (slot k).view.WordExact := by
  have hw : ∀ h : Fin 7, (Rect.unit (s := S7x2x8x64x256) ![h.val, 0, 0, 0, 0] S1x2x8x64x256.size (slab_inb h)).WholeWords (EltTy.packing .bf16) := by
    decide
  exact ((buf_whole k.1 k.2.1).wordExact_slice rfl _ (hw k.2.2)).reshape _ _

theorem source_exact (k : Step) : (sourceM k).view.WordExact := by
  obtain ⟨d, v, ⟨h, hh⟩⟩ := k
  cases h with
  | zero => exact (stg_whole d v).wordExact
  | succ h => exact slot_exact _

/-- Starting the copy of step `k` to device `dv`. -/
def startCode (k : Step) (dv : Dev nD) (kk : Code F) : Code F :=
  .op (.enqueueDma (sourceM k) (.remote (Dev.tc dv) (slot k) (.dma (sendS k))) (.dma (recvS k)) (source_exact k) (slot_exact k)
    ⟨⟨rfl, Or.inl rfl⟩, trivial⟩) fun _ => kk
/-- Waiting for one's own copy of step `k` to have been read. -/
def sentCode (k : Step) (kk : Code F) : Code F :=
  .op (.waitDma2 (sendS k) (slot k) (sourceM k) (slot_exact k) (source_exact k)) fun _ => kk
/-- Waiting for the neighbour's copy of step `k`. -/
def gotCode (k : Step) (kk : Code F) : Code F :=
  .op (.waitDma2 (recvS k) (sourceM k) (slot k) (source_exact k) (slot_exact k)) fun _ => kk

/-- One chain's turn between two hops. -/
def turnCode (d v : Bool) (h h' : Fin 7) (dv : Dev nD) (kk : Code F) : Code F :=
  sentCode (d, v, h) (gotCode (d, v, h) (startCode (d, v, h') dv kk))
/-- One chain's turn after the last hop. -/
def endCode (d v : Bool) (kk : Code F) : Code F := sentCode (d, v, 6) (gotCode (d, v, 6) kk)

/-! ## The loops' bodies -/

def loop1 : Trip → Unit → Code F := fun k _ => firstTrip (k0_off1 k) (k0_off1_inb k) (k0_off2 k) (k0_off2_inb k) (k0_off3 k) (k0_off3_inb k)
def loop2 : Trip → Unit → Code F := fun k _ => midTrip (k0_off4 k) (k0_off4_inb k) (k0_off5 k) (k0_off5_inb k) (k0_off6 k) (k0_off6_inb k)
def loop3 : Trip → Unit → Code F := fun k _ => midTrip (k0_off7 k) (k0_off7_inb k) (k0_off8 k) (k0_off8_inb k) (k0_off9 k) (k0_off9_inb k)
def loop4 : Trip → Unit → Code F := fun k _ => midTrip (k0_off10 k) (k0_off10_inb k) (k0_off11 k) (k0_off11_inb k) (k0_off12 k) (k0_off12_inb k)
def loop5 : Trip → Unit → Code F := fun k _ => midTrip (k0_off13 k) (k0_off13_inb k) (k0_off14 k) (k0_off14_inb k) (k0_off15 k) (k0_off15_inb k)
def loop6 : Trip → Unit → Code F := fun k _ => midTrip (k0_off16 k) (k0_off16_inb k) (k0_off17 k) (k0_off17_inb k) (k0_off18 k) (k0_off18_inb k)
def loop7 : Trip → Unit → Code F := fun k _ => midTrip (k0_off19 k) (k0_off19_inb k) (k0_off20 k) (k0_off20_inb k) (k0_off21 k) (k0_off21_inb k)
def loop8 : Trip → Unit → Code F := fun k _ => lastTrip (k0_off22 k) (k0_off22_inb k) (k0_off23 k) (k0_off23_inb k) (k0_off24 k) (k0_off24_inb k)

/-! ## The rounds -/

/-- After the last hop: the waits and the last loop. -/
def tailCode : Code F :=
  endCode true false <| endCode true true <| endCode false false <| endCode false true <|
  Prog.bind (k0_t1_loop.for k0_t1_ok ⟨⟩ loop8) fun _ => .ret ⟨⟩

/-- The turns from hop 0 to hop 1, and the loop over the slots of hop 0. -/
def hopCode0 (c : Dev nD) (kk : Code F) : Code F :=
  turnCode true false 0 1 ⟨k0_dev7 c, k0_dev7_lt c⟩ <|
  turnCode true true 0 1 ⟨k0_dev8 c, k0_dev8_lt c⟩ <|
  turnCode false false 0 1 ⟨k0_dev9 c, k0_dev9_lt c⟩ <|
  turnCode false true 0 1 ⟨k0_dev10 c, k0_dev10_lt c⟩ <|
  Prog.bind (k0_t1_loop.for k0_t1_ok ⟨⟩ loop2) fun _ => kk

/-- The turns from hop 1 to hop 2, and the loop over the slots of hop 1. -/
def hopCode1 (c : Dev nD) (kk : Code F) : Code F :=
  turnCode true false 1 2 ⟨k0_dev11 c, k0_dev11_lt c⟩ <|
  turnCode true true 1 2 ⟨k0_dev12 c, k0_dev12_lt c⟩ <|
  turnCode false false 1 2 ⟨k0_dev13 c, k0_dev13_lt c⟩ <|
  turnCode false true 1 2 ⟨k0_dev14 c, k0_dev14_lt c⟩ <|
  Prog.bind (k0_t1_loop.for k0_t1_ok ⟨⟩ loop3) fun _ => kk

/-- The turns from hop 2 to hop 3, and the loop over the slots of hop 2. -/
def hopCode2 (c : Dev nD) (kk : Code F) : Code F :=
  turnCode true false 2 3 ⟨k0_dev15 c, k0_dev15_lt c⟩ <|
  turnCode true true 2 3 ⟨k0_dev16 c, k0_dev16_lt c⟩ <|
  turnCode false false 2 3 ⟨k0_dev17 c, k0_dev17_lt c⟩ <|
  turnCode false true 2 3 ⟨k0_dev18 c, k0_dev18_lt c⟩ <|
  Prog.bind (k0_t1_loop.for k0_t1_ok ⟨⟩ loop4) fun _ => kk

/-- The turns from hop 3 to hop 4, and the loop over the slots of hop 3. -/
def hopCode3 (c : Dev nD) (kk : Code F) : Code F :=
  turnCode true false 3 4 ⟨k0_dev19 c, k0_dev19_lt c⟩ <|
  turnCode true true 3 4 ⟨k0_dev20 c, k0_dev20_lt c⟩ <|
  turnCode false false 3 4 ⟨k0_dev21 c, k0_dev21_lt c⟩ <|
  turnCode false true 3 4 ⟨k0_dev22 c, k0_dev22_lt c⟩ <|
  Prog.bind (k0_t1_loop.for k0_t1_ok ⟨⟩ loop5) fun _ => kk

/-- The turns from hop 4 to hop 5, and the loop over the slots of hop 4. -/
def hopCode4 (c : Dev nD) (kk : Code F) : Code F :=
  turnCode true false 4 5 ⟨k0_dev23 c, k0_dev23_lt c⟩ <|
  turnCode true true 4 5 ⟨k0_dev24 c, k0_dev24_lt c⟩ <|
  turnCode false false 4 5 ⟨k0_dev25 c, k0_dev25_lt c⟩ <|
  turnCode false true 4 5 ⟨k0_dev26 c, k0_dev26_lt c⟩ <|
  Prog.bind (k0_t1_loop.for k0_t1_ok ⟨⟩ loop6) fun _ => kk

/-- The turns from hop 5 to hop 6, and the loop over the slots of hop 5. -/
def hopCode5 (c : Dev nD) (kk : Code F) : Code F :=
  turnCode true false 5 6 ⟨k0_dev27 c, k0_dev27_lt c⟩ <|
  turnCode true true 5 6 ⟨k0_dev28 c, k0_dev28_lt c⟩ <|
  turnCode false false 5 6 ⟨k0_dev29 c, k0_dev29_lt c⟩ <|
  turnCode false true 5 6 ⟨k0_dev30 c, k0_dev30_lt c⟩ <|
  Prog.bind (k0_t1_loop.for k0_t1_ok ⟨⟩ loop7) fun _ => kk

/-- The signals and the wait on the barrier. -/
def meetCode (c : Dev nD) (kk : Code F) : Code F :=
  .op (.semSignal (Dev.tc ⟨k0_dev1 c, k0_dev1_lt c⟩) barS 1) fun _ => .op (.semSignal (Dev.tc ⟨k0_dev2 c, k0_dev2_lt c⟩) barS 1) fun _ =>
  .op (.semWait barS 2) fun _ => kk

/-- The copies of hop 0 and the loop over the staged half blocks. -/
def headCode (c : Dev nD) (kk : Code F) : Code F :=
  startCode (true, false, 0) ⟨k0_dev3 c, k0_dev3_lt c⟩ <|
  startCode (true, true, 0) ⟨k0_dev4 c, k0_dev4_lt c⟩ <|
  startCode (false, false, 0) ⟨k0_dev5 c, k0_dev5_lt c⟩ <|
  startCode (false, true, 0) ⟨k0_dev6 c, k0_dev6_lt c⟩ <|
  Prog.bind (k0_t1_loop.for k0_t1_ok ⟨⟩ loop1) fun _ => kk

/-- The body of the kernel on device `c`. -/
def ringCode (c : Dev nD) : Code F :=
  meetCode c <| headCode c <| hopCode0 c <| hopCode1 c <| hopCode2 c <| hopCode3 c <| hopCode4 c <| hopCode5 c <| tailCode

theorem body_eq : bodyAt0 (F := F) t0_0 = .op .deviceId fun c => ringCode c := by
  unfold bodyAt0
  rw [cc0_body_eq_skeleton]
  unfold cc0_body_skel
  rw [k0_part40_eq_skeleton]; unfold k0_part40_skel
  simp only [Prog.bind_assoc]
  rw [k0_part9_eq_skeleton]; unfold k0_part9_skel
  rw [k0_part10_eq_skeleton]; unfold k0_part10_skel
  rw [k0_part11_eq_skeleton]; unfold k0_part11_skel
  rw [k0_part12_eq_skeleton]; unfold k0_part12_skel
  rw [k0_part13_eq_skeleton]; unfold k0_part13_skel
  rw [k0_part14_eq_skeleton]; unfold k0_part14_skel
  rw [k0_part15_eq_skeleton]; unfold k0_part15_skel
  rw [k0_part16_eq_skeleton]; unfold k0_part16_skel
  rw [k0_part17_eq_skeleton]; unfold k0_part17_skel
  rw [k0_part18_eq_skeleton]; unfold k0_part18_skel
  rw [k0_part19_eq_skeleton]; unfold k0_part19_skel
  rw [k0_part20_eq_skeleton]; unfold k0_part20_skel
  rw [k0_part21_eq_skeleton]; unfold k0_part21_skel
  rw [k0_part22_eq_skeleton]; unfold k0_part22_skel
  rw [k0_part23_eq_skeleton]; unfold k0_part23_skel
  rw [k0_part24_eq_skeleton]; unfold k0_part24_skel
  rw [k0_part25_eq_skeleton]; unfold k0_part25_skel
  rw [k0_part26_eq_skeleton]; unfold k0_part26_skel
  rw [k0_part27_eq_skeleton]; unfold k0_part27_skel
  rw [k0_part28_eq_skeleton]; unfold k0_part28_skel
  rw [k0_part29_eq_skeleton]; unfold k0_part29_skel
  rw [k0_part30_eq_skeleton]; unfold k0_part30_skel
  rw [k0_part31_eq_skeleton]; unfold k0_part31_skel
  rw [k0_part32_eq_skeleton]; unfold k0_part32_skel
  rw [k0_part33_eq_skeleton]; unfold k0_part33_skel
  rw [k0_part34_eq_skeleton]; unfold k0_part34_skel
  rw [k0_part35_eq_skeleton]; unfold k0_part35_skel
  rw [k0_part36_eq_skeleton]; unfold k0_part36_skel
  rw [k0_part37_eq_skeleton]; unfold k0_part37_skel
  rw [k0_part38_eq_skeleton]; unfold k0_part38_skel
  rw [k0_part39_eq_skeleton]; unfold k0_part39_skel
  simp only [semSignalWord, semWaitWord, Prog.lift, Prog.bind_op, Prog.bind_ret, Prog.pure_eq_ret, Prog.bind_assoc]
  rfl

end Cert.RingAttention

end
-- ==== Proof.Steps.lean ====
module

public import proofs.«01_k».proof.Proof.Code

/-!
# The rules of a step

Starting a copy, waiting for one's own copy, waiting for the neighbour's: what each needs and what it leaves, for a
step given by a variable. Then one chain's turn between two hops.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading slots and sources -/

theorem read_slotOf (M : Memref sig .tc .vmem S7x2x8x64x256 .bf16) (h : Fin 7) (X : Half F) (f : M.view.ty.Contents (Elt F))
    (hf : M.view.read (Elt F) f = spread X) : (slotOf M h).view.read (Elt F) f = X := by
  rw [Memref.read_squeeze_slice M _ _ _ (show S1x2x8x64x256.ShapeCasts S2x8x64x256 by decide)]
  funext i
  refine (shapeCast_apply _ _ i (ix5 (0 : Fin 1) (i 0) (i 1) (i 2) (i 3)) (by
    rw [Shape.rowMajor_val_five, Shape.rowMajor_val_four]
    show (((0 * 2 + (i 0).val) * 8 + (i 1).val) * 64 + (i 2).val) * 256 + (i 3).val = (((i 0).val * 8 + (i 1).val) * 64 + (i 2).val) * 256 + (i 3).val
    rw [Nat.zero_mul, Nat.zero_add])).trans ?_
  show M.view.read (Elt F) f _ = _
  rw [hf]
  show X _ = X _
  refine congrArg _ (funext fun x => Fin.ext ?_)
  match x with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem read_slot (c : Dev nD) (k : Step) (X : Half F) : (slot k).view.read (Elt F) (slotBuf c k X) = X := by
  obtain ⟨d, v, h⟩ := k
  cases d <;> cases v <;> exact read_slotOf _ h X _ rfl

/-- What the copy of a step reads, as contents of its source. -/
def sourceBuf (c : Dev nD) : (k : Step) → Half F → Buf (Elt F) ((sourceM k).view.loc (c : Thread nD τ))
  | (d, v, ⟨0, _⟩), X => stgBuf c d v X
  | (d, v, ⟨h + 1, hh⟩), X => slotBuf c (d, v, ⟨h, Nat.lt_of_succ_lt hh⟩) X

theorem read_source (c : Dev nD) (k : Step) (X : Half F) : (sourceM k).view.read (Elt F) (sourceBuf c k X) = X := by
  obtain ⟨d, v, ⟨h, hh⟩⟩ := k
  cases h with
  | zero => cases d <;> cases v <;> rfl
  | succ h => exact read_slot c _ X

theorem source_credit (k : Step) : (sourceM k).view.dmaCredit = N := by
  obtain ⟨d, v, ⟨h, hh⟩⟩ := k
  cases h with
  | zero => exact stg_credit d v
  | succ h => exact slot_credit _

variable (B : Dev nD → Bool → Bool → Half F)

/-- The half block the copy of a step carries. -/
def carried (c : Dev nD) : Step → Half F
  | (d, v, ⟨0, _⟩) => B c d v
  | (d, v, ⟨h + 1, hh⟩) => landed B c (d, v, ⟨h, Nat.lt_of_succ_lt hh⟩)

theorem srcPts_eq (c : Dev nD) (q : PosShare TreeShare) (k : Step) :
    srcPts B c q k = ((sourceM k).view.loc (c : Thread nD τ) ↦[(sourceM k).view.set]{q} sourceBuf c k (carried B c k)) := by
  obtain ⟨d, v, ⟨h, hh⟩⟩ := k
  cases h with
  | zero => rfl
  | succ h => rfl

theorem landed_down (c : Dev nD) (k : Step) : landed B (down k.1 c) k = carried B c k := by
  obtain ⟨d, v, ⟨h, hh⟩⟩ := k
  cases h with
  | zero => show B (origin d 0 (down d c)) d v = B c d v; rw [origin_zero_down]
  | succ h => show B (origin d (h + 1) (down d c)) d v = B (origin d h c) d v; rw [origin_down]

/-- Contents written through a view, on the view's elements, are any contents that read the same. -/
theorem pointsTo_landed (c : Thread nD τ) {sp : Space} {s : Shape} {e : EltTy} (v : View sig c.2.kind sp s e) (q : PosShare TreeShare)
    (fd g : Buf (Elt F) (v.loc c)) (X : s.Idx → Elt F e) (hg : v.read (Elt F) g = X) :
    (v.loc c ↦[v.set]{q} v.write (Elt F) fd X Finset.univ : sProp 𝕄) = v.loc c ↦[v.set]{q} g := by
  subst hg
  refine (View.pointsTo_write_univ_congr c v q fd g _).trans (pointsTo_congr fun i hi => ?_)
  obtain ⟨x, -, rfl⟩ := Finset.mem_map.mp hi
  rw [View.write_emb_of_mem _ _ (Finset.mem_univ _), View.read_apply, cast_cast, cast_eq]

/-! ## What a device knows and holds -/

/-- The invariants of all cells at names `K`, and the ranks. -/
def Knows (K : GSem nD τ sig → ℕ) : sProp 𝕄 :=
  iprop((bigSep Finset.univ fun c : Dev nD => cellInv ER (Rd B) (K (barCell c)) (barCell c))
    ∗ (bigSep Finset.univ fun p : Dev nD × (Step × Bool) => cellInv ER (Rd B) (K (stepCell p.1 p.2)) (stepCell p.1 p.2))
    ∗ levAts L lv)

instance Knows_persistent (K : GSem nD τ sig → ℕ) : BI.Persistent (Knows (F := F) B K) := by unfold Knows; infer_instance

theorem Knows_bar (K : GSem nD τ sig → ℕ) (c : Dev nD) : Knows B K ⊢ cellInv ER (Rd B) (K (barCell c)) (barCell c) := by
  have h : (bigSep Finset.univ fun c : Dev nD => cellInv ER (Rd B) (K (barCell c)) (barCell c))
      ⊢ (cellInv ER (Rd B) (K (barCell c)) (barCell c) : sProp 𝕄) := bigSep_elim (Finset.mem_univ c)
  unfold Knows
  iintro ⟨H, -, -⟩
  iapply h; iexact H
theorem Knows_step (K : GSem nD τ sig → ℕ) (c : Dev nD) (x : Step × Bool) :
    Knows B K ⊢ cellInv ER (Rd B) (K (stepCell c x)) (stepCell c x) := by
  have h : (bigSep Finset.univ fun p : Dev nD × (Step × Bool) => cellInv ER (Rd B) (K (stepCell p.1 p.2)) (stepCell p.1 p.2))
      ⊢ (cellInv ER (Rd B) (K (stepCell c x)) (stepCell c x) : sProp 𝕄) := bigSep_elim (i := (c, x)) (Finset.mem_univ _)
  unfold Knows
  iintro ⟨-, H, -⟩
  iapply h; iexact H
theorem Knows_lev (K : GSem nD τ sig → ℕ) : Knows B K ⊢ (levAts L lv : sProp 𝕄) := by
  unfold Knows
  iintro ⟨-, -, H⟩
  iexact H

/-- What `c` still owes. -/
def Owes (c : Dev nD) (O : CellTallies nD τ sig Unit) : sProp 𝕄 := iprop(∃ W, owes (c : Thread nD τ) O W)
/-- What `c` needs for its waits at a step. -/
def Mine (c : Dev nD) (k : Step) : sProp 𝕄 :=
  iprop(atPos ER (sendCell c k) 0 ∅ 0 ∗ atPos ER (recvCell c k) 0 ∅ 0 ∗ cred (tallyAt (recvCell c k) () N))
/-- What `c` needs to start the copy of a step. -/
def Ready (c : Dev nD) (k : Step) : sProp 𝕄 :=
  iprop(dutyTok ER (sendCell c k) 0 false ∗ dutyTok ER (recvCell (down k.1 c) k) 0 false ∗ reached ER (sendCell c k) 0
    ∗ (slotAny (down k.1 c) k ∗ reached ER (recvCell (down k.1 c) k) 0))
/-- What `c` holds of a step whose waits are over. -/
def Done (c : Dev nD) (k : Step) : sProp 𝕄 := iprop(atPos ER (sendCell c k) 1 ∅ 0 ∗ atPos ER (recvCell c k) 1 ∅ 0)

theorem rem_place (c : Dev nD) (k : Step) :
    rem c (28 - place k) = rem c (27 - place k) + tallyAt (recvCell (down k.1 c) k) () N := by
  have hp := place_lt k
  obtain ⟨j, hj⟩ : ∃ j, 27 - place k = j := ⟨_, rfl⟩
  have h1 : 28 - place k = j + 1 := by omega
  have h2 : 27 - j = place k := by omega
  rw [h1, hj]
  show rem c j + _ = _
  rw [h2, stepAt_place]

/-! ## The rules -/

theorem duty_step (c : Dev nD) (x : Step × Bool) : false ∈ (Rd (F := F) B).duties (stepCell c x) 0 := by
  rw [duties_step]; exact Finset.mem_singleton_self _

theorem wp_start (K : GSem nD τ sig → ℕ) (c : Dev nD) (k : Step) (dv : Dev nD) (hdv : dv = down k.1 c) (kk : Code F) (Q : Unit → sProp 𝕄) :
    iprop(Knows B K ∗ Ready c k ∗ srcPts B c (PosShare.left fullShare) k ∗ Owes c (rem c (28 - place k)))
      ⊢ iprop(((cred (tallyAt (sendCell c k) () N) ∗ Owes c (rem c (27 - place k)))
            -∗ wp frame (wpE (defs₀ (F := F)) 𝒱₀ (c : Thread nD τ) none) Set.univ kk Q)
          -∗ wp frame (wpE (defs₀ (F := F)) 𝒱₀ (c : Thread nD τ) none) Set.univ (startCode k dv kk) Q) := by
  subst hdv
  have hpay₂ (fd : Buf (Elt F) ((slot k).view.loc ((down k.1 c : Dev nD) : Thread nD τ))) :
      ((slot k).view.loc ((down k.1 c : Dev nD) : Thread nD τ) ↦[(slot k).view.set]{fullShare}
          ((slot k).view.write (Elt F) fd ((sourceM k).view.read (Elt F) (sourceBuf c k (carried B c k))) Finset.univ))
        ⊢ (Rd B).payload (recvCell (down k.1 c) k) 0 false := by
    refine BI.Entails.trans ?_ (Entails.of_eq (payload_step B (down k.1 c) (k, false) false).symm)
    rw [read_source, pointsTo_landed _ _ _ fd (slotBuf (down k.1 c) k (carried B c k)) _ (read_slot (down k.1 c) k _), ← landed_down B c k]
    exact BI.Entails.refl _
  have hpay₁ : ((sourceM k).view.loc (c : Thread nD τ) ↦[(sourceM k).view.set]{PosShare.left fullShare} sourceBuf c k (carried B c k))
        ⊢ (Rd B).payload (sendCell c k) 0 false := by
    rw [← srcPts_eq]
    exact Entails.of_eq (payload_step B c (k, true) false).symm
  have hS := Knows_step B K c (k, true)
  have hR := Knows_step B K (down k.1 c) (k, false)
  rw [srcPts_eq, rem_place]
  unfold Ready Owes slotAny startCode
  iintro ⟨#HK, ⟨Ht1, Ht2, Hr1, ⟨⟨%fd, Hd⟩, Hr2⟩⟩, Hs, ⟨%W, Ho⟩⟩ Hk
  ihave HS := hS $$ HK
  ihave HR := hR $$ HK
  iapply (Rounds.wp_send_pointsTo 𝒱₀ ER (Rd B) (c : Thread nD τ) none (c' := ((down k.1 c : Dev nD) : Thread nD τ)) (r₁ := 0) (r₂ := 0)
    (d₁ := false) (d₂ := false) (κ₁ := K (sendCell c k)) (κ₂ := K (recvCell (down k.1 c) k))
    (duty_step B c (k, true))
    (duty_step B (down k.1 c) (k, false)) () () N
    ((show (slot k).view.amount (.dma (recvS k)) = (slot k).view.dmaCredit from rfl).trans (slot_credit k)) (amount_step B c (k, true) false) (amount_step B (down k.1 c) (k, false) false) (rem c (27 - place k)) rfl hpay₁ (hpay₂ fd))
    $$ [HS HR Hs Hd Ho Ht1 Hr1 Ht2 Hr2]
  · isplitl [HS]; · iexact HS
    isplitl [HR]; · iexact HR
    isplitl [Hs]; · iexact Hs
    isplitl [Hd]; · iexact Hd
    isplitl [Ho]; · iexact Ho
    isplitl [Ht1]; · iexact Ht1
    isplitl [Hr1]; · iexact Hr1
    isplitl [Ht2]; · iexact Ht2
    iexact Hr2
  iintro ⟨Hc, Ho⟩
  iapply Hk
  isplitl [Hc]; · iexact Hc
  iexists W; iexact Ho

theorem wp_sent (K : GSem nD τ sig → ℕ) (c : Dev nD) (k : Step) (j : ℕ) (hj : j ≤ 28) (kk : Code F) (Q : Unit → sProp 𝕄) :
    iprop(Knows B K ∗ atPos ER (sendCell c k) 0 ∅ 0 ∗ cred (tallyAt (sendCell c k) () N) ∗ Owes c (rem c j))
      ⊢ iprop(((atPos ER (sendCell c k) 1 ∅ 0 ∗ srcPts B c (PosShare.left fullShare) k ∗ Owes c (rem c j))
            -∗ wp frame (wpE (defs₀ (F := F)) 𝒱₀ (c : Thread nD τ) none) Set.univ kk Q)
          -∗ wp frame (wpE (defs₀ (F := F)) 𝒱₀ (c : Thread nD τ) none) Set.univ (sentCode k kk) Q) := by
  have hS := Knows_step B K c (k, true)
  have hL := Knows_lev B K
  have hM := mayWait_rem (F := F) c (.dma (sendS k)) j hj (by rw [show lv _ () = 0 from lv_send c k]; omega)
  have hrest : bigSep ((Rd B).duties (sendCell c k) 0 \ ∅) (fun d => (Rd B).payload (sendCell c k) 0 d) = srcPts B c (PosShare.left fullShare) k :=
    rest_step B c (k, true)
  unfold Owes sentCode
  iintro ⟨#HK, Ha, Hc, ⟨%W, Ho⟩⟩ Hk
  ihave HS := hS $$ HK
  ihave HL := hL $$ HK
  ihave HM := hM $$ HL
  iapply (Rounds.wp_wait_rest_token 𝒱₀ ER (Rd B) (c : Thread nD τ) none (κ := K (sendCell c k))
    (sm := .dma (sendS k)) (k' := N)
    (fun KK => (wpE_waitDma2_eq 𝒱₀ (c : Thread nD τ) none Set.univ KK).trans (by rw [source_credit])) (Set.mem_univ _) () (O := rem c j) (W := W) (R := 0) (m := 0) (T := ∅)
    ((Nat.zero_add _).trans (expect_step B c (k, true)).symm)) $$ [HS Hc Ho HM Ha]
  · isplitl [HS]; · iexact HS
    isplitl [Hc]; · iexact Hc
    isplitl [Ho]; · iexact Ho
    isplitl [HM]; · iexact HM
    iexact Ha
  rw [hrest]
  iintro ⟨Ho, Ha, -, Hp⟩
  iapply Hk
  isplitl [Ha]; · iexact Ha
  isplitl [Hp]; · iexact Hp
  iexists (insert (SemLoc.dma (sendS k), ()) W); iexact Ho

theorem wp_got (K : GSem nD τ sig → ℕ) (c : Dev nD) (k : Step) (j : ℕ) (hj : 2 + place k + j < 30) (kk : Code F) (Q : Unit → sProp 𝕄) :
    iprop(Knows B K ∗ atPos ER (recvCell c k) 0 ∅ 0 ∗ cred (tallyAt (recvCell c k) () N) ∗ Owes c (rem c j))
      ⊢ iprop(((atPos ER (recvCell c k) 1 ∅ 0 ∗ slotPts c k fullShare (landed B c k) ∗ Owes c (rem c j))
            -∗ wp frame (wpE (defs₀ (F := F)) 𝒱₀ (c : Thread nD τ) none) Set.univ kk Q)
          -∗ wp frame (wpE (defs₀ (F := F)) 𝒱₀ (c : Thread nD τ) none) Set.univ (gotCode k kk) Q) := by
  have hS := Knows_step B K c (k, false)
  have hL := Knows_lev B K
  have hM := mayWait_rem (F := F) c (.dma (recvS k)) j (by omega) (by rw [show lv _ () = 2 + place k from lv_recv c k]; omega)
  have hrest : bigSep ((Rd B).duties (recvCell c k) 0 \ ∅) (fun d => (Rd B).payload (recvCell c k) 0 d) = slotPts c k fullShare (landed B c k) :=
    rest_step B c (k, false)
  unfold Owes gotCode
  iintro ⟨#HK, Ha, Hc, ⟨%W, Ho⟩⟩ Hk
  ihave HS := hS $$ HK
  ihave HL := hL $$ HK
  ihave HM := hM $$ HL
  iapply (Rounds.wp_wait_rest_token 𝒱₀ ER (Rd B) (c : Thread nD τ) none (κ := K (recvCell c k))
    (sm := .dma (recvS k)) (k' := N)
    (fun KK => (wpE_waitDma2_eq 𝒱₀ (c : Thread nD τ) none Set.univ KK).trans (by rw [slot_credit])) (Set.mem_univ _) () (O := rem c j) (W := W) (R := 0) (m := 0) (T := ∅)
    ((Nat.zero_add _).trans (expect_step B c (k, false)).symm)) $$ [HS Hc Ho HM Ha]
  · isplitl [HS]; · iexact HS
    isplitl [Hc]; · iexact Hc
    isplitl [Ho]; · iexact Ho
    isplitl [HM]; · iexact HM
    iexact Ha
  rw [hrest]
  iintro ⟨Ho, Ha, -, Hp⟩
  iapply Hk
  isplitl [Ha]; · iexact Ha
  isplitl [Hp]; · iexact Hp
  iexists (insert (SemLoc.dma (recvS k), ()) W); iexact Ho

/-- Contents of a slot split into the half a copy reads and the half the loop reads, and joined. -/
theorem slot_halves (c : Dev nD) (k : Step) (X : Half F) :
    slotPts c k fullShare X ⊢ iprop(slotPts c k (PosShare.left fullShare) X ∗ slotPts c k (PosShare.right fullShare) X) :=
  (pointsTo_share (PosShare.mem_left_op_right fullShare)).1
theorem slot_whole (c : Dev nD) (k : Step) (X : Half F) :
    iprop(slotPts c k (PosShare.left fullShare) X ∗ slotPts c k (PosShare.right fullShare) X) ⊢ slotPts c k fullShare X :=
  (pointsTo_share (PosShare.mem_left_op_right fullShare)).2
theorem stg_halves (c : Dev nD) (d v : Bool) (X : Half F) :
    stgPts c d v fullShare X ⊢ iprop(stgPts c d v (PosShare.left fullShare) X ∗ stgPts c d v (PosShare.right fullShare) X) :=
  (pointsTo_share (PosShare.mem_left_op_right fullShare)).1
theorem stg_join (c : Dev nD) (d v : Bool) (X : Half F) :
    iprop(stgPts c d v (PosShare.left fullShare) X ∗ stgPts c d v (PosShare.right fullShare) X) ⊢ stgPts c d v fullShare X :=
  (pointsTo_share (PosShare.mem_left_op_right fullShare)).2

/-- A turn: the copy of step `k` is over on both sides, and the copy of the next step of the chain is on its way. -/
theorem wp_turn (K : GSem nD τ sig → ℕ) (c : Dev nD) (d v : Bool) (h : Fin 7) (hh : h.val + 1 < 7) (dv : Dev nD) (hdv : dv = down d c)
    (kk : Code F) (Q : Unit → sProp 𝕄) :
    iprop(Knows B K ∗ Mine c (d, v, h) ∗ Ready c (d, v, ⟨h.val + 1, hh⟩) ∗ cred (tallyAt (sendCell c (d, v, h)) () N)
        ∗ Owes c (rem c (28 - place (d, v, ⟨h.val + 1, hh⟩))))
      ⊢ iprop(((Done c (d, v, h) ∗ srcPts B c (PosShare.left fullShare) (d, v, h)
              ∗ slotPts c (d, v, h) (PosShare.right fullShare) (landed B c (d, v, h))
              ∗ cred (tallyAt (sendCell c (d, v, ⟨h.val + 1, hh⟩)) () N) ∗ Owes c (rem c (27 - place (d, v, ⟨h.val + 1, hh⟩))))
            -∗ wp frame (wpE (defs₀ (F := F)) 𝒱₀ (c : Thread nD τ) none) Set.univ kk Q)
          -∗ wp frame (wpE (defs₀ (F := F)) 𝒱₀ (c : Thread nD τ) none) Set.univ (turnCode d v h ⟨h.val + 1, hh⟩ dv kk) Q) := by
  have hp : place (d, v, h) + 4 = place (d, v, ⟨h.val + 1, hh⟩) := by
    show 4 * h.val + chain d v + 4 = 4 * (h.val + 1) + chain d v; omega
  have hsplit := slot_halves c (d, v, h) (landed B c (d, v, h))
  have hsrc : slotPts c (d, v, h) (PosShare.left fullShare) (landed B c (d, v, h))
      ⊢ srcPts B c (PosShare.left fullShare) (d, v, ⟨h.val + 1, hh⟩) := BI.Entails.refl _
  have hpl := place_lt (d, v, ⟨h.val + 1, hh⟩)
  unfold Mine turnCode Done
  iintro ⟨#HK, ⟨Ha1, Ha2, Hc2⟩, HR, Hc1, Ho⟩ Hk
  iapply (wp_sent B K c (d, v, h) (28 - place (d, v, ⟨h.val + 1, hh⟩)) (by omega)) $$ [Ha1 Hc1 Ho]
  · isplitr; · iexact HK
    isplitl [Ha1]; · iexact Ha1
    isplitl [Hc1]; · iexact Hc1
    iexact Ho
  iintro ⟨Ha1, Hs, Ho⟩
  iapply (wp_got B K c (d, v, h) (28 - place (d, v, ⟨h.val + 1, hh⟩)) (by omega)) $$ [Ha2 Hc2 Ho]
  · isplitr; · iexact HK
    isplitl [Ha2]; · iexact Ha2
    isplitl [Hc2]; · iexact Hc2
    iexact Ho
  iintro ⟨Ha2, Hn, Ho⟩
  ihave Hn' := hsplit $$ Hn
  icases Hn' with ⟨Hl, Hr⟩
  ihave Hl' := hsrc $$ Hl
  iapply (wp_start B K c (d, v, ⟨h.val + 1, hh⟩) dv hdv) $$ [HR Hl' Ho]
  · isplitr; · iexact HK
    isplitl [HR]; · iexact HR
    isplitl [Hl']; · iexact Hl'
    iexact Ho
  iintro ⟨Hc1, Ho⟩
  iapply Hk
  isplitl [Ha1 Ha2]
  · isplitl [Ha1]; · iexact Ha1
    iexact Ha2
  isplitl [Hs]; · iexact Hs
  isplitl [Hr]; · iexact Hr
  isplitl [Hc1]; · iexact Hc1
  iexact Ho

/-- The end of a chain: the copy of the last step is over on both sides. -/
theorem wp_end (K : GSem nD τ sig → ℕ) (c : Dev nD) (d v : Bool) (kk : Code F) (Q : Unit → sProp 𝕄) :
    iprop(Knows B K ∗ Mine c (d, v, 6) ∗ cred (tallyAt (sendCell c (d, v, 6)) () N) ∗ Owes c 0)
      ⊢ iprop(((Done c (d, v, 6) ∗ srcPts B c (PosShare.left fullShare) (d, v, 6)
              ∗ slotPts c (d, v, 6) fullShare (landed B c (d, v, 6)) ∗ Owes c 0)
            -∗ wp frame (wpE (defs₀ (F := F)) 𝒱₀ (c : Thread nD τ) none) Set.univ kk Q)
          -∗ wp frame (wpE (defs₀ (F := F)) 𝒱₀ (c : Thread nD τ) none) Set.univ (endCode d v kk) Q) := by
  have hpl := place_lt (d, v, (6 : Fin 7))
  unfold Mine endCode Done
  iintro ⟨#HK, ⟨Ha1, Ha2, Hc2⟩, Hc1, Ho⟩ Hk
  iapply (wp_sent B K c (d, v, 6) 0 (by omega)) $$ [Ha1 Hc1 Ho]
  · isplitr; · iexact HK
    isplitl [Ha1]; · iexact Ha1
    isplitl [Hc1]; · iexact Hc1
    iexact Ho
  iintro ⟨Ha1, Hs, Ho⟩
  iapply (wp_got B K c (d, v, 6) 0 (by omega)) $$ [Ha2 Hc2 Ho]
  · isplitr; · iexact HK
    isplitl [Ha2]; · iexact Ha2
    isplitl [Hc2]; · iexact Hc2
    iexact Ho
  iintro ⟨Ha2, Hn, Ho⟩
  iapply Hk
  isplitl [Ha1 Ha2]
  · isplitl [Ha1]; · iexact Ha1
    iexact Ha2
  isplitl [Hs]; · iexact Hs
  isplitl [Hn]; · iexact Hn
  iexact Ho

end Cert.RingAttention

end
-- ==== Proof.TripRules.lean ====
module

public import proofs.«01_k».proof.Proof.Trips

/-!
# The rules of the loops over pairs

What a trip holds and what it leaves, and from that what each of the eight loops leaves.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## What a trip holds -/

/-- Arrays as contents of the buffers of the queries, of the numerators and of the denominators. -/
def qBuf (c : Dev nD) (Q : Queries F) : Buf (Elt F) (qM.view.loc (c : Thread nD τ)) := Q
def oBuf (c : Dev nD) (o : Nums F) : Buf (Elt F) (oM.view.loc (c : Thread nD τ)) := o
def lBuf (c : Dev nD) (l : Dens F) : Buf (Elt F) (lM.view.loc (c : Thread nD τ)) := l

/-- The queries, the numerators and the denominators of `c`, whole, at given contents. -/
abbrev qPts (c : Dev nD) (q : PosShare TreeShare) (Q : Queries F) : sProp 𝕄 :=
  qM.view.loc (c : Thread nD τ) ↦[Finset.univ]{q} qBuf c Q
abbrev oPts (c : Dev nD) (o : Nums F) : sProp 𝕄 :=
  oM.view.loc (c : Thread nD τ) ↦[Finset.univ]{fullShare} oBuf c o
abbrev lPts (c : Dev nD) (l : Dens F) : sProp 𝕄 :=
  lM.view.loc (c : Thread nD τ) ↦[Finset.univ]{fullShare} lBuf c l

/-- The four slots of hop `h`. -/
def slots (c : Dev nD) (h : Fin 7) (q : PosShare TreeShare) (X : Met F) : sProp 𝕄 :=
  iprop(slotPts c (true, false, h) q (X true false) ∗ slotPts c (true, true, h) q (X true true)
    ∗ slotPts c (false, false, h) q (X false false) ∗ slotPts c (false, true, h) q (X false true))

/-- The four staged half blocks. -/
def stgs (c : Dev nD) (q : PosShare TreeShare) (X : Met F) : sProp 𝕄 :=
  iprop(stgPts c true false q (X true false) ∗ stgPts c true true q (X true true)
    ∗ stgPts c false false q (X false false) ∗ stgPts c false true q (X false true))

/-- A pair's tile of a slot lies in the slot. -/
theorem tile_in_slot (M : Memref sig .tc .vmem S7x2x8x64x256 .bf16) (h : Fin 7) (t : Fin 16) (hs : SlotIn (slotOff h t)) :
    M.view.setOn (slotRect (slotOff h t) hs).toLoadRect.set ⊆ (slotOf M h).view.set :=
  (Memref.setOn_subset_slice_of_within M (Rect.unit (s := S7x2x8x64x256) ![h.val, 0, 0, 0, 0] S1x2x8x64x256.size (slab_inb h))
    (fun _ => rfl) (slotRect (slotOff h t) hs).toLoadRect (by revert h t; decide +kernel)).trans
    (Finset.Subset.antisymm_iff.mp (Memref.set_view_squeeze (M.slice (Rect.unit (s := S7x2x8x64x256) ![h.val, 0, 0, 0, 0] S1x2x8x64x256.size (slab_inb h))
    (fun _ => rfl)) squeezes_S1x2x8x64x256_S2x8x64x256)).2

theorem row_lInit (Q : Queries F) (X : Met F) (a : Fin 2) (b : Fin 8) : row (lInit Q X) a b = lAdd Q X a b :=
  funext fun i => congrArg (lAdd Q X a b) (eq_ix1 i).symm
theorem tile_oInit (Q : Queries F) (X : Met F) (a : Fin 2) (b : Fin 8) : tile (oInit Q X) a b = oAdd Q X a b :=
  funext fun i => congrArg (oAdd Q X a b) (eq_ix2 i).symm
theorem row_lStep (Q : Queries F) (X : Met F) (l : Dens F) (a : Fin 2) (b : Fin 8) :
    row (lStep Q X l) a b = addf (row l a b) (lAdd Q X a b) :=
  funext fun i => congrArg (addf (row l a b) (lAdd Q X a b)) (eq_ix1 i).symm
theorem tile_oStep (Q : Queries F) (X : Met F) (o : Nums F) (a : Fin 2) (b : Fin 8) :
    tile (oStep Q X o) a b = addf (tile o a b) (oAdd Q X a b) :=
  funext fun i => congrArg (addf (tile o a b) (oAdd Q X a b)) (eq_ix2 i).symm
theorem tile_oLast (Q : Queries F) (X : Met F) (l : Dens F) (o : Nums F) (a : Fin 2) (b : Fin 8) :
    tile (oLast Q X l o) a b = quot (addf (tile o a b) (oAdd Q X a b)) (addf (row l a b) (lAdd Q X a b)) :=
  funext fun i => congrArg (quot (addf (tile o a b) (oAdd Q X a b)) (addf (row l a b) (lAdd Q X a b))) (eq_ix2 i).symm

/-! ## The trips' rules -/

section Rules

variable (c : Dev nD)

/-- A store through a memref whose whole buffer is held, by the array it leaves: `u` makes an array contents. -/
theorem wp_put {s : Shape} {e : EltTy} (M : Memref sig .tc .vmem s e) (u : (s.Idx → Elt F e) → Buf (Elt F) (M.view.loc (c : Thread nD τ)))
    (hu : ∀ f, u (M.view.read (Elt F) f) = f) (r : Rect s) (w : r.shape.Idx → Elt F e)
    {hx : (M.access r).Stores Finset.univ} {hm : Finset.univ = Finset.univ ∨ ∀ a, r.stride a = 1}
    {k : PUnit → Code F} {K : Unit → sProp 𝕄} (X X' : s.Idx → Elt F e)
    (h : M.view.read (Elt F) (M.view.writes (Elt F) (u X) [⟨r, w⟩]) = X') :
    (M.view.loc (c : Thread nD τ) ↦[Finset.univ]{fullShare} u X)
      ⊢ iprop(((M.view.loc (c : Thread nD τ) ↦[Finset.univ]{fullShare} u X') -∗ wp frame (wpE (defs₀ (F := F)) 𝒱₀ (c : Thread nD τ) none) Set.univ (k ⟨⟩) K)
        -∗ wp frame (wpE (defs₀ (F := F)) 𝒱₀ (c : Thread nD τ) none) Set.univ (.op (.store M r w Finset.univ hx hm) k) K) := by
  subst h
  rw [hu]
  exact wp_store_writes₀ 𝒱₀ (c : Thread nD τ) none Set.univ (Finset.subset_univ _)

/-- Storing the row of trip `t`. -/
theorem wp_row (new old : Dens F) (t : Fin 16) (v : FVec F S512 .f32) (hv : v = row new (bat t) (hd t)) {hl : RowIn (rowOff t)}
    {hx : (lM.access (rowRect (rowOff t) hl)).Stores Finset.univ} {hm : Finset.univ = Finset.univ ∨ ∀ a, (rowRect (rowOff t) hl).stride a = 1}
    {k : PUnit → Code F} {K : Unit → sProp 𝕄} :
    lPts c (lMid new old t.val)
      ⊢ iprop((lPts c (lMid new old (t.val + 1)) -∗ wp frame (wpE (defs₀ (F := F)) 𝒱₀ (c : Thread nD τ) none) Set.univ (k ⟨⟩) K)
        -∗ wp frame (wpE (defs₀ (F := F)) 𝒱₀ (c : Thread nD τ) none) Set.univ
            (.op (.store lM (rowRect (rowOff t) hl) (shapeCast S1x1x512 v shapeCasts_S512_S1x1x512) Finset.univ hx hm) k) K) :=
  wp_put c lM (lBuf c) (fun _ => rfl) (rowRect (rowOff t) hl) (shapeCast S1x1x512 v shapeCasts_S512_S1x1x512) (lMid new old t.val) (lMid new old (t.val + 1))
    (store_row (F := F) lM (lBuf c (lMid new old t.val)) new old t rfl v hv hl)

/-- Storing the tile of trip `t`. -/
theorem wp_tile (new old : Nums F) (t : Fin 16) (v : FVec F S64x512 .f32) (hv : v = tile new (bat t) (hd t)) {hl : TileIn (tileOff t)}
    {hx : (oM.access (tileRect (tileOff t) hl)).Stores Finset.univ} {hm : Finset.univ = Finset.univ ∨ ∀ a, (tileRect (tileOff t) hl).stride a = 1}
    {k : PUnit → Code F} {K : Unit → sProp 𝕄} :
    oPts c (oMid new old t.val)
      ⊢ iprop((oPts c (oMid new old (t.val + 1)) -∗ wp frame (wpE (defs₀ (F := F)) 𝒱₀ (c : Thread nD τ) none) Set.univ (k ⟨⟩) K)
        -∗ wp frame (wpE (defs₀ (F := F)) 𝒱₀ (c : Thread nD τ) none) Set.univ
            (.op (.store oM (tileRect (tileOff t) hl) (shapeCast S1x1x64x512 v shapeCasts_S64x512_S1x1x64x512) Finset.univ hx hm) k) K) :=
  wp_put c oM (oBuf c) (fun _ => rfl) (tileRect (tileOff t) hl) (shapeCast S1x1x64x512 v shapeCasts_S64x512_S1x1x64x512) (oMid new old t.val) (oMid new old (t.val + 1))
    (store_tile (F := F) oM (oBuf c (oMid new old t.val)) new old t rfl v hv hl)

variable (qq qs : PosShare TreeShare) (Q : Queries F) (X : Met F)

/-- A trip of the first loop. -/
theorem wp_firstTrip (t : Fin 16) (l0 : Dens F) (o0 : Nums F) {oq : Fin 4 → ℕ} {hq : TileIn oq} {ok : Fin 4 → ℕ} {hk : HalfIn ok}
    {ol : Fin 3 → ℕ} {hl : RowIn ol} (eq : oq = tileOff t) (ek : ok = tileOff t) (el : ol = rowOff t) :
    iprop(qPts c qq Q ∗ stgs c qs X ∗ lPts c (lMid (lInit Q X) l0 t.val) ∗ oPts c (oMid (oInit Q X) o0 t.val))
      ⊢ wp frame (wpE (defs₀ (F := F)) 𝒱₀ (c : Thread nD τ) none) Set.univ (firstTrip oq hq ok hk ol hl)
          (fun _ => iprop(qPts c qq Q ∗ stgs c qs X ∗ lPts c (lMid (lInit Q X) l0 (t.val + 1)) ∗ oPts c (oMid (oInit Q X) o0 (t.val + 1)))) := by
  subst eq ek el
  have eQ := load_tile (F := F) (bat t) (hd t) qM hq (qBuf c Q)
  have e1 := load_htile (F := F) (bat t) (hd t) (stg true false) hk (stgBuf c true false (X true false))
  have e2 := load_htile (F := F) (bat t) (hd t) (stg true true) hk (stgBuf c true true (X true true))
  have e3 := load_htile (F := F) (bat t) (hd t) (stg false false) hk (stgBuf c false false (X false false))
  have e4 := load_htile (F := F) (bat t) (hd t) (stg false true) hk (stgBuf c false true (X false true))
  unfold stgs stgPts firstTrip
  simp only [Prog.lift, Prog.bind_op, Prog.bind_ret, Prog.pure_eq_ret]
  iintro ⟨HQ, ⟨H1, H2, H3, H4⟩, Hl, Ho⟩
  iapply (wp_load 𝒱₀ (c : Thread nD τ) none Set.univ (m := qM) (Finset.subset_univ _)) $$ HQ; iintro HQ
  iapply (wp_load 𝒱₀ (c : Thread nD τ) none Set.univ (m := stg true false) (View.setOn_subset_set _ _)) $$ H1; iintro H1
  iapply (wp_load 𝒱₀ (c : Thread nD τ) none Set.univ (m := stg true true) (View.setOn_subset_set _ _)) $$ H2; iintro H2
  iapply (wp_load 𝒱₀ (c : Thread nD τ) none Set.univ (m := stg false false) (View.setOn_subset_set _ _)) $$ H3; iintro H3
  iapply (wp_load 𝒱₀ (c : Thread nD τ) none Set.univ (m := stg false true) (View.setOn_subset_set _ _)) $$ H4; iintro H4
  iapply (wp_load 𝒱₀ (c : Thread nD τ) none Set.univ (m := lM) (Finset.subset_univ _)) $$ Hl; iintro Hl
  rw [eQ, e1, e2, e3, e4]
  iapply (wp_row c (lInit Q X) l0 t _ (row_lInit Q X (bat t) (hd t)).symm) $$ Hl; iintro Hl
  iapply (wp_load 𝒱₀ (c : Thread nD τ) none Set.univ (m := oM) (Finset.subset_univ _)) $$ Ho; iintro Ho
  iapply (wp_tile c (oInit Q X) o0 t _ (tile_oInit Q X (bat t) (hd t)).symm) $$ Ho; iintro Ho
  rw [wp_ret]; imodintro
  iframe HQ H1 H2 H3 H4 Hl Ho

/-- A trip of the middle loop of hop `h`. -/
theorem wp_midTrip (h : Fin 7) (t : Fin 16) (l0 : Dens F) (o0 : Nums F) {oq : Fin 4 → ℕ} {hq : TileIn oq} {os : Fin 5 → ℕ} {hs : SlotIn os}
    {ol : Fin 3 → ℕ} {hl : RowIn ol} (eq : oq = tileOff t) (es : os = slotOff h t) (el : ol = rowOff t) :
    iprop(qPts c qq Q ∗ slots c h qs X ∗ lPts c (lMid (lStep Q X l0) l0 t.val) ∗ oPts c (oMid (oStep Q X o0) o0 t.val))
      ⊢ wp frame (wpE (defs₀ (F := F)) 𝒱₀ (c : Thread nD τ) none) Set.univ (midTrip oq hq os hs ol hl)
          (fun _ => iprop(qPts c qq Q ∗ slots c h qs X ∗ lPts c (lMid (lStep Q X l0) l0 (t.val + 1)) ∗ oPts c (oMid (oStep Q X o0) o0 (t.val + 1)))) := by
  subst eq es el
  have eL := (load_row (F := F) (bat t) (hd t) lM hl (lBuf c (lMid (lStep Q X l0) l0 t.val))).trans (row_lMid (lStep Q X l0) l0 t)
  have eO := (load_tile (F := F) (bat t) (hd t) oM hq (oBuf c (oMid (oStep Q X o0) o0 t.val))).trans (tile_oMid (oStep Q X o0) o0 t)
  have eQ := load_tile (F := F) (bat t) (hd t) qM hq (qBuf c Q)
  have e1 := load_slot (F := F) (bat t) (hd t) (buf true false) h (X true false) hs (slotBuf c (true, false, h) (X true false)) rfl
  have e2 := load_slot (F := F) (bat t) (hd t) (buf true true) h (X true true) hs (slotBuf c (true, true, h) (X true true)) rfl
  have e3 := load_slot (F := F) (bat t) (hd t) (buf false false) h (X false false) hs (slotBuf c (false, false, h) (X false false)) rfl
  have e4 := load_slot (F := F) (bat t) (hd t) (buf false true) h (X false true) hs (slotBuf c (false, true, h) (X false true)) rfl
  unfold slots slotPts midTrip
  simp only [Prog.lift, Prog.bind_op, Prog.bind_ret, Prog.pure_eq_ret]
  iintro ⟨HQ, ⟨H1, H2, H3, H4⟩, Hl, Ho⟩
  iapply (wp_load 𝒱₀ (c : Thread nD τ) none Set.univ (m := qM) (Finset.subset_univ _)) $$ HQ; iintro HQ
  iapply (wp_load 𝒱₀ (c : Thread nD τ) none Set.univ (m := buf true false) (tile_in_slot (buf true false) h t hs)) $$ H1; iintro H1
  iapply (wp_load 𝒱₀ (c : Thread nD τ) none Set.univ (m := buf true true) (tile_in_slot (buf true true) h t hs)) $$ H2; iintro H2
  iapply (wp_load 𝒱₀ (c : Thread nD τ) none Set.univ (m := buf false false) (tile_in_slot (buf false false) h t hs)) $$ H3; iintro H3
  iapply (wp_load 𝒱₀ (c : Thread nD τ) none Set.univ (m := buf false true) (tile_in_slot (buf false true) h t hs)) $$ H4; iintro H4
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Ho; iintro Ho
  iapply (wp_load 𝒱₀ (c : Thread nD τ) none Set.univ (m := lM) (Finset.subset_univ _)) $$ Hl; iintro Hl
  rw [eQ, e1, e2, e3, e4, eL, eO]
  iapply (wp_row c (lStep Q X l0) l0 t _ (row_lStep Q X l0 (bat t) (hd t)).symm) $$ Hl; iintro Hl
  iapply (wp_load 𝒱₀ (c : Thread nD τ) none Set.univ (m := oM) (Finset.subset_univ _)) $$ Ho; iintro Ho
  iapply (wp_tile c (oStep Q X o0) o0 t _ (tile_oStep Q X o0 (bat t) (hd t)).symm) $$ Ho; iintro Ho
  rw [wp_ret]; imodintro
  iframe HQ H1 H2 H3 H4 Hl Ho

/-- A trip of the last loop. -/
theorem wp_lastTrip (h : Fin 7) (t : Fin 16) (l0 : Dens F) (o0 : Nums F) {oq : Fin 4 → ℕ} {hq : TileIn oq} {os : Fin 5 → ℕ} {hs : SlotIn os}
    {ol : Fin 3 → ℕ} {hl : RowIn ol} (eq : oq = tileOff t) (es : os = slotOff h t) (el : ol = rowOff t) :
    iprop(qPts c qq Q ∗ slots c h qs X ∗ lPts c l0 ∗ oPts c (oMid (oLast Q X l0 o0) o0 t.val))
      ⊢ wp frame (wpE (defs₀ (F := F)) 𝒱₀ (c : Thread nD τ) none) Set.univ (lastTrip oq hq os hs ol hl)
          (fun _ => iprop(qPts c qq Q ∗ slots c h qs X ∗ lPts c l0 ∗ oPts c (oMid (oLast Q X l0 o0) o0 (t.val + 1)))) := by
  subst eq es el
  have eL := load_row (F := F) (bat t) (hd t) lM hl (lBuf c l0)
  have eO := (load_tile (F := F) (bat t) (hd t) oM hq (oBuf c (oMid (oLast Q X l0 o0) o0 t.val))).trans (tile_oMid (oLast Q X l0 o0) o0 t)
  have eQ := load_tile (F := F) (bat t) (hd t) qM hq (qBuf c Q)
  have e1 := load_slot (F := F) (bat t) (hd t) (buf true false) h (X true false) hs (slotBuf c (true, false, h) (X true false)) rfl
  have e2 := load_slot (F := F) (bat t) (hd t) (buf true true) h (X true true) hs (slotBuf c (true, true, h) (X true true)) rfl
  have e3 := load_slot (F := F) (bat t) (hd t) (buf false false) h (X false false) hs (slotBuf c (false, false, h) (X false false)) rfl
  have e4 := load_slot (F := F) (bat t) (hd t) (buf false true) h (X false true) hs (slotBuf c (false, true, h) (X false true)) rfl
  unfold slots slotPts lastTrip
  simp only [Prog.lift, Prog.bind_op, Prog.bind_ret, Prog.pure_eq_ret]
  iintro ⟨HQ, ⟨H1, H2, H3, H4⟩, Hl, Ho⟩
  iapply (wp_load 𝒱₀ (c : Thread nD τ) none Set.univ (m := qM) (Finset.subset_univ _)) $$ HQ; iintro HQ
  iapply (wp_load 𝒱₀ (c : Thread nD τ) none Set.univ (m := buf true false) (tile_in_slot (buf true false) h t hs)) $$ H1; iintro H1
  iapply (wp_load 𝒱₀ (c : Thread nD τ) none Set.univ (m := buf true true) (tile_in_slot (buf true true) h t hs)) $$ H2; iintro H2
  iapply (wp_load 𝒱₀ (c : Thread nD τ) none Set.univ (m := buf false false) (tile_in_slot (buf false false) h t hs)) $$ H3; iintro H3
  iapply (wp_load 𝒱₀ (c : Thread nD τ) none Set.univ (m := buf false true) (tile_in_slot (buf false true) h t hs)) $$ H4; iintro H4
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  rw [eQ, e1, e2, e3, e4, eL, eO]
  iapply (wp_tile c (oLast Q X l0 o0) o0 t _ (tile_oLast Q X l0 o0 (bat t) (hd t)).symm) $$ Ho; iintro Ho
  rw [wp_ret]; imodintro
  iframe HQ H1 H2 H3 H4 Hl Ho

end Rules

end Cert.RingAttention

end
-- ==== Proof.Loops.lean ====
module

public import proofs.«01_k».proof.Proof.TripRules

/-!
# The eight loops

What each loop leaves: the first starts the accumulators, the middle ones step them, the last leaves the results.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (qq qs : PosShare TreeShare) (Q : Queries F) (X : Met F)

/-- The first loop starts the accumulators. -/
theorem wp_firstLoop {kk : Unit → Code F} {K : Unit → sProp 𝕄} (l0 : Dens F) (o0 : Nums F) (body : Trip → Unit → Code F)
    {oq ok : Trip → Fin 4 → ℕ} {ol : Trip → Fin 3 → ℕ} {hq : ∀ k, TileIn (oq k)} {hk : ∀ k, HalfIn (ok k)} {hl : ∀ k, RowIn (ol k)}
    (hb : ∀ k, body k ⟨⟩ = firstTrip (oq k) (hq k) (ok k) (hk k) (ol k) (hl k))
    (eq : ∀ k, oq k = tileOff (num k)) (ek : ∀ k, ok k = tileOff (num k)) (el : ∀ k, ol k = rowOff (num k)) :
    iprop(qPts c qq Q ∗ stgs c qs X ∗ lPts c l0 ∗ oPts c o0)
      ⊢ iprop(((qPts c qq Q ∗ stgs c qs X ∗ lPts c (lInit Q X) ∗ oPts c (oInit Q X))
          -∗ wp frame (wpE (defs₀ (F := F)) 𝒱₀ (c : Thread nD τ) none) Set.univ (kk ⟨⟩) K)
        -∗ wp frame (wpE (defs₀ (F := F)) 𝒱₀ (c : Thread nD τ) none) Set.univ (Prog.bind (k0_t1_loop.for k0_t1_ok ⟨⟩ body) kk) K) := by
  have hw := Scf.wp_for_bind frame (wpE (defs₀ (F := F)) 𝒱₀ (c : Thread nD τ) none) Set.univ k0_t1_loop.lb k0_t1_loop.ub k0_t1_loop.st k0_t1_ok
    ⟨⟩ body (fun t _ => iprop(qPts c qq Q ∗ stgs c qs X ∗ lPts c (lMid (lInit Q X) l0 t) ∗ oPts c (oMid (oInit Q X) o0 t)))
    (fun k a => by
      show _ ⊢ wp _ _ _ (body k ⟨⟩) _
      rw [hb k]
      exact wp_firstTrip c qq qs Q X (num k) l0 o0 (eq k) (ek k) (el k)) (kk := kk) (Q := K)
  rw [show Scf.trips k0_t1_loop.lb k0_t1_loop.ub k0_t1_loop.st = 16 from trips_eq, lMid_zero, oMid_zero, lMid_last, oMid_last] at hw
  refine hw.trans (wand_mono_left ?_)
  iintro HK %a
  iexact HK

/-- The middle loop of hop `h` steps the accumulators. -/
theorem wp_midLoop (h : Fin 7) {kk : Unit → Code F} {K : Unit → sProp 𝕄} (l0 : Dens F) (o0 : Nums F) (body : Trip → Unit → Code F)
    {oq : Trip → Fin 4 → ℕ} {os : Trip → Fin 5 → ℕ} {ol : Trip → Fin 3 → ℕ} {hq : ∀ k, TileIn (oq k)} {hs : ∀ k, SlotIn (os k)} {hl : ∀ k, RowIn (ol k)}
    (hb : ∀ k, body k ⟨⟩ = midTrip (oq k) (hq k) (os k) (hs k) (ol k) (hl k))
    (eq : ∀ k, oq k = tileOff (num k)) (es : ∀ k, os k = slotOff h (num k)) (el : ∀ k, ol k = rowOff (num k)) :
    iprop(qPts c qq Q ∗ slots c h qs X ∗ lPts c l0 ∗ oPts c o0)
      ⊢ iprop(((qPts c qq Q ∗ slots c h qs X ∗ lPts c (lStep Q X l0) ∗ oPts c (oStep Q X o0))
          -∗ wp frame (wpE (defs₀ (F := F)) 𝒱₀ (c : Thread nD τ) none) Set.univ (kk ⟨⟩) K)
        -∗ wp frame (wpE (defs₀ (F := F)) 𝒱₀ (c : Thread nD τ) none) Set.univ (Prog.bind (k0_t1_loop.for k0_t1_ok ⟨⟩ body) kk) K) := by
  have hw := Scf.wp_for_bind frame (wpE (defs₀ (F := F)) 𝒱₀ (c : Thread nD τ) none) Set.univ k0_t1_loop.lb k0_t1_loop.ub k0_t1_loop.st k0_t1_ok
    ⟨⟩ body (fun t _ => iprop(qPts c qq Q ∗ slots c h qs X ∗ lPts c (lMid (lStep Q X l0) l0 t) ∗ oPts c (oMid (oStep Q X o0) o0 t)))
    (fun k a => by
      show _ ⊢ wp _ _ _ (body k ⟨⟩) _
      rw [hb k]
      exact wp_midTrip c qq qs Q X h (num k) l0 o0 (eq k) (es k) (el k)) (kk := kk) (Q := K)
  rw [show Scf.trips k0_t1_loop.lb k0_t1_loop.ub k0_t1_loop.st = 16 from trips_eq, lMid_zero, oMid_zero, lMid_last, oMid_last] at hw
  refine hw.trans (wand_mono_left ?_)
  iintro HK %a
  iexact HK

/-- The last loop leaves the results. -/
theorem wp_lastLoop (h : Fin 7) {kk : Unit → Code F} {K : Unit → sProp 𝕄} (l0 : Dens F) (o0 : Nums F) (body : Trip → Unit → Code F)
    {oq : Trip → Fin 4 → ℕ} {os : Trip → Fin 5 → ℕ} {ol : Trip → Fin 3 → ℕ} {hq : ∀ k, TileIn (oq k)} {hs : ∀ k, SlotIn (os k)} {hl : ∀ k, RowIn (ol k)}
    (hb : ∀ k, body k ⟨⟩ = lastTrip (oq k) (hq k) (os k) (hs k) (ol k) (hl k))
    (eq : ∀ k, oq k = tileOff (num k)) (es : ∀ k, os k = slotOff h (num k)) (el : ∀ k, ol k = rowOff (num k)) :
    iprop(qPts c qq Q ∗ slots c h qs X ∗ lPts c l0 ∗ oPts c o0)
      ⊢ iprop(((qPts c qq Q ∗ slots c h qs X ∗ lPts c l0 ∗ oPts c (oLast Q X l0 o0))
          -∗ wp frame (wpE (defs₀ (F := F)) 𝒱₀ (c : Thread nD τ) none) Set.univ (kk ⟨⟩) K)
        -∗ wp frame (wpE (defs₀ (F := F)) 𝒱₀ (c : Thread nD τ) none) Set.univ (Prog.bind (k0_t1_loop.for k0_t1_ok ⟨⟩ body) kk) K) := by
  have hw := Scf.wp_for_bind frame (wpE (defs₀ (F := F)) 𝒱₀ (c : Thread nD τ) none) Set.univ k0_t1_loop.lb k0_t1_loop.ub k0_t1_loop.st k0_t1_ok
    ⟨⟩ body (fun t _ => iprop(qPts c qq Q ∗ slots c h qs X ∗ lPts c l0 ∗ oPts c (oMid (oLast Q X l0 o0) o0 t)))
    (fun k a => by
      show _ ⊢ wp _ _ _ (body k ⟨⟩) _
      rw [hb k]
      exact wp_lastTrip c qq qs Q X h (num k) l0 o0 (eq k) (es k) (el k)) (kk := kk) (Q := K)
  rw [show Scf.trips k0_t1_loop.lb k0_t1_loop.ub k0_t1_loop.st = 16 from trips_eq, oMid_zero, oMid_last] at hw
  refine hw.trans (wand_mono_left ?_)
  iintro HK %a
  iexact HK

end Cert.RingAttention

end
-- ==== Proof.Hops.lean ====
module

public import proofs.«01_k».proof.Proof.Steps
public import proofs.«01_k».proof.Proof.Loops

/-!
# The hops

The meeting at the barrier, the four chains' turns and the loop between two hops, the end; then the body of the
kernel on a device given by a variable.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The four chains -/

/-- One assertion for each chain. -/
def Four (P : Bool → Bool → sProp 𝕄) : sProp 𝕄 := iprop(P true false ∗ P true true ∗ P false false ∗ P false true)

theorem four_sum (P : Bool × Bool → sProp 𝕄) : bigSep Finset.univ P = Four fun d v => P (d, v) := by
  rw [show (Finset.univ : Finset (Bool × Bool)) = {(true, false), (true, true), (false, false), (false, true)} by decide,
    bigSep_insert (by decide), bigSep_insert (by decide), bigSep_insert (by decide), bigSep_singleton]
  rfl

/-- Steps by hop. -/
def byHop : Fin 7 × (Bool × Bool) ≃ Step where
  toFun x := (x.2.1, x.2.2, x.1)
  invFun k := (k.2.2, (k.1, k.2.1))
  left_inv _ := rfl
  right_inv _ := rfl

theorem hops_sum (P : Step → sProp 𝕄) : bigSep Finset.univ P
    = iprop((Four fun d v => P (d, v, 0)) ∗ (Four fun d v => P (d, v, 1)) ∗ (Four fun d v => P (d, v, 2)) ∗ (Four fun d v => P (d, v, 3))
      ∗ (Four fun d v => P (d, v, 4)) ∗ (Four fun d v => P (d, v, 5)) ∗ (Four fun d v => P (d, v, 6))) := by
  rw [bigSep_univ_equiv byHop, bigSep_univ_prod,
    show (Finset.univ : Finset (Fin 7)) = {0, 1, 2, 3, 4, 5, 6} by decide,
    bigSep_insert (by decide), bigSep_insert (by decide), bigSep_insert (by decide), bigSep_insert (by decide), bigSep_insert (by decide),
    bigSep_insert (by decide), bigSep_singleton, four_sum, four_sum, four_sum, four_sum, four_sum, four_sum, four_sum]
  rfl

theorem four_mono {P P' : Bool → Bool → sProp 𝕄} (h : ∀ d v, P d v ⊢ P' d v) : Four P ⊢ Four P' := by
  have h1 := h true false
  have h2 := h true true
  have h3 := h false false
  have h4 := h false true
  unfold Four
  iintro ⟨H1, H2, H3, H4⟩
  isplitl [H1]; · iapply h1; iexact H1
  isplitl [H2]; · iapply h2; iexact H2
  isplitl [H3]; · iapply h3; iexact H3
  iapply h4; iexact H4

theorem four_sep (P P' : Bool → Bool → sProp 𝕄) : iprop(Four P ∗ Four P') ⊢ Four fun d v => iprop(P d v ∗ P' d v) := by
  unfold Four
  iintro ⟨⟨H1, H2, H3, H4⟩, ⟨G1, G2, G3, G4⟩⟩
  isplitl [H1 G1]; · isplitl [H1]; · iexact H1
                     iexact G1
  isplitl [H2 G2]; · isplitl [H2]; · iexact H2
                     iexact G2
  isplitl [H3 G3]; · isplitl [H3]; · iexact H3
                     iexact G3
  isplitl [H4]; · iexact H4
  iexact G4

theorem four_split (P P' : Bool → Bool → sProp 𝕄) : (Four fun d v => iprop(P d v ∗ P' d v)) ⊢ iprop(Four P ∗ Four P') := by
  unfold Four
  iintro ⟨⟨H1, G1⟩, ⟨H2, G2⟩, ⟨H3, G3⟩, ⟨H4, G4⟩⟩
  isplitl [H1 H2 H3 H4]
  · isplitl [H1]; · iexact H1
    isplitl [H2]; · iexact H2
    isplitl [H3]; · iexact H3
    iexact H4
  isplitl [G1]; · iexact G1
  isplitl [G2]; · iexact G2
  isplitl [G3]; · iexact G3
  iexact G4

variable (B : Dev nD → Bool → Bool → Half F) (K : GSem nD τ sig → ℕ) (c : Dev nD)

/-- What has arrived on `c` with hop `n`. -/
def met (n : ℕ) : Met F := fun d v => B (origin d n c) d v

/-- The credit for one's own copy of a step. -/
def Sent (k : Step) : sProp 𝕄 := cred (tallyAt (sendCell c k) () N)

/-! ## The turns of a hop -/

/-- The four turns from hop `h` to the next. -/
def turnsCode (h : Fin 7) (hh : h.val + 1 < 7) (d1 d2 d3 d4 : Dev nD) (kk : Code F) : Code F :=
  turnCode true false h ⟨h.val + 1, hh⟩ d1 <| turnCode true true h ⟨h.val + 1, hh⟩ d2 <|
  turnCode false false h ⟨h.val + 1, hh⟩ d3 <| turnCode false true h ⟨h.val + 1, hh⟩ d4 kk

theorem wp_turns (h : Fin 7) (hh : h.val + 1 < 7) (d1 d2 d3 d4 : Dev nD) (e1 : d1 = down true c) (e2 : d2 = down true c)
    (e3 : d3 = down false c) (e4 : d4 = down false c) (kk : Code F) (Q : Unit → sProp 𝕄) :
    iprop(Knows B K ∗ (Four fun d v => Mine c (d, v, h)) ∗ (Four fun d v => Ready c (d, v, ⟨h.val + 1, hh⟩)) ∗ (Four fun d v => Sent c (d, v, h))
        ∗ Owes c (rem c (24 - 4 * h.val)))
      ⊢ iprop((((Four fun d v => Done c (d, v, h)) ∗ (Four fun d v => srcPts B c (PosShare.left fullShare) (d, v, h))
              ∗ slots c h (PosShare.right fullShare) (met B c h.val)
              ∗ (Four fun d v => Sent c (d, v, ⟨h.val + 1, hh⟩)) ∗ Owes c (rem c (24 - 4 * (h.val + 1))))
            -∗ wp frame (wpE (defs₀ (F := F)) 𝒱₀ (c : Thread nD τ) none) Set.univ kk Q)
          -∗ wp frame (wpE (defs₀ (F := F)) 𝒱₀ (c : Thread nD τ) none) Set.univ (turnsCode h hh d1 d2 d3 d4 kk) Q) := by
  have p1 : place (true, false, (⟨h.val + 1, hh⟩ : Fin 7)) = 4 * (h.val + 1) + 0 := rfl
  have p2 : place (true, true, (⟨h.val + 1, hh⟩ : Fin 7)) = 4 * (h.val + 1) + 1 := rfl
  have p3 : place (false, false, (⟨h.val + 1, hh⟩ : Fin 7)) = 4 * (h.val + 1) + 2 := rfl
  have p4 : place (false, true, (⟨h.val + 1, hh⟩ : Fin 7)) = 4 * (h.val + 1) + 3 := rfl
  have t1 := wp_turn B K c true false h hh d1 e1
    (turnCode true true h ⟨h.val + 1, hh⟩ d2 <| turnCode false false h ⟨h.val + 1, hh⟩ d3 <| turnCode false true h ⟨h.val + 1, hh⟩ d4 kk) Q
  have t2 := wp_turn B K c true true h hh d2 e2 (turnCode false false h ⟨h.val + 1, hh⟩ d3 <| turnCode false true h ⟨h.val + 1, hh⟩ d4 kk) Q
  have t3 := wp_turn B K c false false h hh d3 e3 (turnCode false true h ⟨h.val + 1, hh⟩ d4 kk) Q
  have t4 := wp_turn B K c false true h hh d4 e4 kk Q
  rw [p1, show 28 - (4 * (h.val + 1) + 0) = 24 - 4 * h.val by omega, show 27 - (4 * (h.val + 1) + 0) = 23 - 4 * h.val by omega] at t1
  rw [p2, show 28 - (4 * (h.val + 1) + 1) = 23 - 4 * h.val by omega, show 27 - (4 * (h.val + 1) + 1) = 22 - 4 * h.val by omega] at t2
  rw [p3, show 28 - (4 * (h.val + 1) + 2) = 22 - 4 * h.val by omega, show 27 - (4 * (h.val + 1) + 2) = 21 - 4 * h.val by omega] at t3
  rw [p4, show 28 - (4 * (h.val + 1) + 3) = 21 - 4 * h.val by omega, show 27 - (4 * (h.val + 1) + 3) = 24 - 4 * (h.val + 1) by omega] at t4
  unfold Four turnsCode slots Sent
  iintro ⟨#HK, ⟨M1, M2, M3, M4⟩, ⟨R1, R2, R3, R4⟩, ⟨C1, C2, C3, C4⟩, Ho⟩ Hk
  iapply t1 $$ [M1 R1 C1 Ho]
  · isplitr; · iexact HK
    isplitl [M1]; · iexact M1
    isplitl [R1]; · iexact R1
    isplitl [C1]; · iexact C1
    iexact Ho
  iintro ⟨D1, S1, L1, C1, Ho⟩
  iapply t2 $$ [M2 R2 C2 Ho]
  · isplitr; · iexact HK
    isplitl [M2]; · iexact M2
    isplitl [R2]; · iexact R2
    isplitl [C2]; · iexact C2
    iexact Ho
  iintro ⟨D2, S2, L2, C2, Ho⟩
  iapply t3 $$ [M3 R3 C3 Ho]
  · isplitr; · iexact HK
    isplitl [M3]; · iexact M3
    isplitl [R3]; · iexact R3
    isplitl [C3]; · iexact C3
    iexact Ho
  iintro ⟨D3, S3, L3, C3, Ho⟩
  iapply t4 $$ [M4 R4 C4 Ho]
  · isplitr; · iexact HK
    isplitl [M4]; · iexact M4
    isplitl [R4]; · iexact R4
    isplitl [C4]; · iexact C4
    iexact Ho
  iintro ⟨D4, S4, L4, C4, Ho⟩
  iapply Hk
  isplitl [D1 D2 D3 D4]
  · isplitl [D1]; · iexact D1
    isplitl [D2]; · iexact D2
    isplitl [D3]; · iexact D3
    iexact D4
  isplitl [S1 S2 S3 S4]
  · isplitl [S1]; · iexact S1
    isplitl [S2]; · iexact S2
    isplitl [S3]; · iexact S3
    iexact S4
  isplitl [L1 L2 L3 L4]
  · isplitl [L1]; · iexact L1
    isplitl [L2]; · iexact L2
    isplitl [L3]; · iexact L3
    iexact L4
  isplitl [C1 C2 C3 C4]
  · isplitl [C1]; · iexact C1
    isplitl [C2]; · iexact C2
    isplitl [C3]; · iexact C3
    iexact C4
  iexact Ho

/-! ## The accumulators round by round -/

/-- The denominators after the rounds `0` to `n`. -/
def ringL (Q : Queries F) : ℕ → Dens F
  | 0 => lInit Q (B c)
  | n + 1 => lStep Q (met B c n) (ringL Q n)
/-- The numerators after the rounds `0` to `n`. -/
def ringO (Q : Queries F) : ℕ → Nums F
  | 0 => oInit Q (B c)
  | n + 1 => oStep Q (met B c n) (ringO Q n)
/-- The results. -/
def ringOut (Q : Queries F) : Nums F := oLast Q (met B c 6) (ringL B c Q 6) (ringO B c Q 6)

/-- The turns from hop `h` to the next, and the loop over the slots of hop `h`. -/
theorem wp_hop (h : Fin 7) (hh : h.val + 1 < 7) (d1 d2 d3 d4 : Dev nD) (e1 : d1 = down true c) (e2 : d2 = down true c)
    (e3 : d3 = down false c) (e4 : d4 = down false c) (qq : PosShare TreeShare) (Q : Queries F) (kk : Code F) (P : Unit → sProp 𝕄) (body : Trip → Unit → Code F)
    {oq : Trip → Fin 4 → ℕ} {os : Trip → Fin 5 → ℕ} {ol : Trip → Fin 3 → ℕ} {hq : ∀ k, TileIn (oq k)} {hs : ∀ k, SlotIn (os k)} {hl : ∀ k, RowIn (ol k)}
    (hb : ∀ k, body k ⟨⟩ = midTrip (oq k) (hq k) (os k) (hs k) (ol k) (hl k))
    (eq : ∀ k, oq k = tileOff (num k)) (es : ∀ k, os k = slotOff h (num k)) (el : ∀ k, ol k = rowOff (num k)) :
    iprop(Knows B K ∗ (Four fun d v => Mine c (d, v, h)) ∗ (Four fun d v => Ready c (d, v, ⟨h.val + 1, hh⟩)) ∗ (Four fun d v => Sent c (d, v, h))
        ∗ Owes c (rem c (24 - 4 * h.val)) ∗ qPts c qq Q ∗ lPts c (ringL B c Q h.val) ∗ oPts c (ringO B c Q h.val))
      ⊢ iprop((((Four fun d v => Done c (d, v, h)) ∗ (Four fun d v => srcPts B c (PosShare.left fullShare) (d, v, h))
              ∗ slots c h (PosShare.right fullShare) (met B c h.val)
              ∗ (Four fun d v => Sent c (d, v, ⟨h.val + 1, hh⟩)) ∗ Owes c (rem c (24 - 4 * (h.val + 1)))
              ∗ qPts c qq Q ∗ lPts c (ringL B c Q (h.val + 1)) ∗ oPts c (ringO B c Q (h.val + 1)))
            -∗ wp frame (wpE (defs₀ (F := F)) 𝒱₀ (c : Thread nD τ) none) Set.univ kk P)
          -∗ wp frame (wpE (defs₀ (F := F)) 𝒱₀ (c : Thread nD τ) none) Set.univ
            (turnsCode h hh d1 d2 d3 d4 (Prog.bind (k0_t1_loop.for k0_t1_ok ⟨⟩ body) fun _ => kk)) P) := by
  have ht := wp_turns B K c h hh d1 d2 d3 d4 e1 e2 e3 e4 (Prog.bind (k0_t1_loop.for k0_t1_ok ⟨⟩ body) fun _ => kk) P
  have hm := wp_midLoop c qq (PosShare.right fullShare) Q (met B c h.val) h (kk := fun _ => kk) (K := P)
    (ringL B c Q h.val) (ringO B c Q h.val) body hb eq es el
  iintro ⟨#HK, M, R, C, Ho, Hq, Hl, Hn⟩ Hk
  iapply ht $$ [M R C Ho]
  · isplitr; · iexact HK
    isplitl [M]; · iexact M
    isplitl [R]; · iexact R
    isplitl [C]; · iexact C
    iexact Ho
  iintro ⟨D, S, L, C, Ho⟩
  iapply hm $$ [Hq L Hl Hn]
  · isplitl [Hq]; · iexact Hq
    isplitl [L]; · iexact L
    isplitl [Hl]; · iexact Hl
    iexact Hn
  iintro ⟨Hq, L, Hl, Hn⟩
  iapply Hk
  isplitl [D]; · iexact D
  isplitl [S]; · iexact S
  isplitl [L]; · iexact L
  isplitl [C]; · iexact C
  isplitl [Ho]; · iexact Ho
  isplitl [Hq]; · iexact Hq
  isplitl [Hl]; · iexact Hl
  iexact Hn

/-! ## The meeting -/

theorem down_prv : down true (prv c) = c := by revert c; decide
theorem down_nxt : down false (nxt c) = c := by revert c; decide

theorem wp_meet (kk : Code F) (P : Unit → sProp 𝕄) :
    iprop(Knows B K ∗ (barPay (F := F) (prv c) true ∗ barPay (F := F) (nxt c) false)
        ∗ (dutyTok ER (barCell (prv c)) 0 true ∗ dutyTok ER (barCell (nxt c)) 0 false)
        ∗ (reached ER (barCell (prv c)) 0 ∗ reached ER (barCell (nxt c)) 0)
        ∗ atPos ER (barCell c) 0 ∅ 0 ∗ cred (tallyAt (barCell c) () 2) ∗ Owes c (O₀ c))
      ⊢ iprop(((atPos ER (barCell c) 1 ∅ 0 ∗ (barPay (F := F) c true ∗ barPay (F := F) c false) ∗ Owes c (rem c 28))
            -∗ wp frame (wpE (defs₀ (F := F)) 𝒱₀ (c : Thread nD τ) none) Set.univ kk P)
          -∗ wp frame (wpE (defs₀ (F := F)) 𝒱₀ (c : Thread nD τ) none) Set.univ (meetCode c kk) P) := by
  have hp := Knows_bar B K (prv c)
  have hn := Knows_bar B K (nxt c)
  have hc := Knows_bar B K c
  have hL := Knows_lev B K
  have hM := mayWait_rem (F := F) c (.reg barS) 28 (by omega) (by rw [show lv _ () = 1 from lv_bar c]; omega)
  have ed1 := (by decide : ∀ c : Dev nD, (⟨k0_dev1 c, k0_dev1_lt c⟩ : Dev nD) = prv c) c
  have ed2 := (by decide : ∀ c : Dev nD, (⟨k0_dev2 c, k0_dev2_lt c⟩ : Dev nD) = nxt c) c
  have hrest : bigSep ((Rd B).duties (barCell c) 0 \ ∅) (fun d => (Rd B).payload (barCell c) 0 d)
      = iprop(barPay (F := F) c true ∗ barPay (F := F) c false) := rest_bar B c
  have py1 : barPay (F := F) (prv c) true ⊢ (Rd B).payload (barCell (prv c)) 0 true := Entails.of_eq (payload_bar B (prv c) true).symm
  have py2 : barPay (F := F) (nxt c) false ⊢ (Rd B).payload (barCell (nxt c)) 0 false := Entails.of_eq (payload_bar B (nxt c) false).symm
  unfold Owes meetCode
  rw [ed1, ed2]
  iintro ⟨#HK, ⟨P1, P2⟩, ⟨T1, T2⟩, ⟨R1, R2⟩, Ha, Hc, ⟨%W, Ho⟩⟩ Hk
  ihave I1 := hp $$ HK
  ihave I2 := hn $$ HK
  ihave I3 := hc $$ HK
  ihave HL := hL $$ HK
  ihave HM := hM $$ HL
  ihave P1' := py1 $$ P1
  ihave P2' := py2 $$ P2
  iapply (Rounds.wp_signal 𝒱₀ ER (Rd B) (c : Thread nD τ) none (dst := ((prv c : Dev nD) : Thread nD τ)) (sem := barS) (r := 0) (d := true)
    (κ := K (barCell (prv c))) (by rw [show (Rd B).duties _ 0 = Finset.univ from duties_bar B (prv c)]; exact Finset.mem_univ _)
    (amount_bar B (prv c) true) () (rem c 28 + tallyAt (barCell (nxt c)) () 1) rfl) $$ [I1 Ho T1 P1' R1]
  · isplitl [I1]; · iexact I1
    isplitl [Ho]; · iexact Ho
    isplitl [T1]; · iexact T1
    isplitl [P1']; · iexact P1'
    iexact R1
  iintro Ho
  iapply (Rounds.wp_signal 𝒱₀ ER (Rd B) (c : Thread nD τ) none (dst := ((nxt c : Dev nD) : Thread nD τ)) (sem := barS) (r := 0) (d := false)
    (κ := K (barCell (nxt c))) (by rw [show (Rd B).duties _ 0 = Finset.univ from duties_bar B (nxt c)]; exact Finset.mem_univ _)
    (amount_bar B (nxt c) false) () (rem c 28) rfl) $$ [I2 Ho T2 P2' R2]
  · isplitl [I2]; · iexact I2
    isplitl [Ho]; · iexact Ho
    isplitl [T2]; · iexact T2
    isplitl [P2']; · iexact P2'
    iexact R2
  iintro Ho
  iapply (Rounds.wp_wait_rest_token 𝒱₀ ER (Rd B) (c : Thread nD τ) none (κ := K (barCell c)) (sm := .reg barS) (k' := 2)
    (fun KK => wpE_semWait_eq 𝒱₀ (c : Thread nD τ) none Set.univ KK) (Set.mem_univ _) () (O := rem c 28) (W := W) (R := 0) (m := 0) (T := ∅)
    ((Nat.zero_add _).trans (expect_bar B c).symm)) $$ [I3 Hc Ho HM Ha]
  · isplitl [I3]; · iexact I3
    isplitl [Hc]; · iexact Hc
    isplitl [Ho]; · iexact Ho
    isplitl [HM]; · iexact HM
    iexact Ha
  rw [hrest]
  iintro ⟨Ho, Ha, -, Hp⟩
  iapply Hk
  isplitl [Ha]; · iexact Ha
  isplitl [Hp]; · iexact Hp
  iexists (insert (SemLoc.reg barS, ()) W); iexact Ho

/-! ## The head and the tail -/

theorem wp_head (qq : PosShare TreeShare) (Q : Queries F) (l0 : Dens F) (o0 : Nums F) (kk : Code F) (P : Unit → sProp 𝕄) :
    iprop(Knows B K ∗ (Four fun d v => Ready c (d, v, 0)) ∗ stgs c fullShare (B c) ∗ Owes c (rem c 28)
        ∗ qPts c qq Q ∗ lPts c l0 ∗ oPts c o0)
      ⊢ iprop((((Four fun d v => Sent c (d, v, 0)) ∗ stgs c (PosShare.right fullShare) (B c) ∗ Owes c (rem c 24)
              ∗ qPts c qq Q ∗ lPts c (ringL B c Q 0) ∗ oPts c (ringO B c Q 0))
            -∗ wp frame (wpE (defs₀ (F := F)) 𝒱₀ (c : Thread nD τ) none) Set.univ kk P)
          -∗ wp frame (wpE (defs₀ (F := F)) 𝒱₀ (c : Thread nD τ) none) Set.univ (headCode c kk) P) := by
  have s1 : stgPts c true false fullShare (B c true false) ⊢ iprop(srcPts B c (PosShare.left fullShare) (true, false, 0) ∗ stgPts c true false (PosShare.right fullShare) (B c true false)) :=
    stg_halves c true false (B c true false)
  have s2 : stgPts c true true fullShare (B c true true) ⊢ iprop(srcPts B c (PosShare.left fullShare) (true, true, 0) ∗ stgPts c true true (PosShare.right fullShare) (B c true true)) :=
    stg_halves c true true (B c true true)
  have s3 : stgPts c false false fullShare (B c false false) ⊢ iprop(srcPts B c (PosShare.left fullShare) (false, false, 0) ∗ stgPts c false false (PosShare.right fullShare) (B c false false)) :=
    stg_halves c false false (B c false false)
  have s4 : stgPts c false true fullShare (B c false true) ⊢ iprop(srcPts B c (PosShare.left fullShare) (false, true, 0) ∗ stgPts c false true (PosShare.right fullShare) (B c false true)) :=
    stg_halves c false true (B c false true)
  have e1 := (by decide : ∀ c : Dev nD, (⟨k0_dev3 c, k0_dev3_lt c⟩ : Dev nD) = down true c) c
  have e2 := (by decide : ∀ c : Dev nD, (⟨k0_dev4 c, k0_dev4_lt c⟩ : Dev nD) = down true c) c
  have e3 := (by decide : ∀ c : Dev nD, (⟨k0_dev5 c, k0_dev5_lt c⟩ : Dev nD) = down false c) c
  have e4 := (by decide : ∀ c : Dev nD, (⟨k0_dev6 c, k0_dev6_lt c⟩ : Dev nD) = down false c) c
  have hf := wp_firstLoop c qq (PosShare.right fullShare) Q (B c) (kk := fun _ => kk) (K := P) l0 o0 loop1 (fun k => rfl)
    off1_eq off2_eq off3_eq
  unfold headCode
  have t1 := wp_start B K c (true, false, 0) _ e1
    (startCode (true, true, 0) ⟨k0_dev4 c, k0_dev4_lt c⟩ <| startCode (false, false, 0) ⟨k0_dev5 c, k0_dev5_lt c⟩ <|
      startCode (false, true, 0) ⟨k0_dev6 c, k0_dev6_lt c⟩ <| Prog.bind (k0_t1_loop.for k0_t1_ok ⟨⟩ loop1) fun _ => kk) P
  have t2 := wp_start B K c (true, true, 0) _ e2
    (startCode (false, false, 0) ⟨k0_dev5 c, k0_dev5_lt c⟩ <|
      startCode (false, true, 0) ⟨k0_dev6 c, k0_dev6_lt c⟩ <| Prog.bind (k0_t1_loop.for k0_t1_ok ⟨⟩ loop1) fun _ => kk) P
  have t3 := wp_start B K c (false, false, 0) _ e3
    (startCode (false, true, 0) ⟨k0_dev6 c, k0_dev6_lt c⟩ <| Prog.bind (k0_t1_loop.for k0_t1_ok ⟨⟩ loop1) fun _ => kk) P
  have t4 := wp_start B K c (false, true, 0) _ e4 (Prog.bind (k0_t1_loop.for k0_t1_ok ⟨⟩ loop1) fun _ => kk) P
  rw [show 28 - place (true, false, 0) = 28 from rfl, show 27 - place (true, false, 0) = 27 from rfl] at t1
  rw [show 28 - place (true, true, 0) = 27 from rfl, show 27 - place (true, true, 0) = 26 from rfl] at t2
  rw [show 28 - place (false, false, 0) = 26 from rfl, show 27 - place (false, false, 0) = 25 from rfl] at t3
  rw [show 28 - place (false, true, 0) = 25 from rfl, show 27 - place (false, true, 0) = 24 from rfl] at t4
  unfold Four Sent stgs
  iintro ⟨#HK, ⟨R1, R2, R3, R4⟩, ⟨S1, S2, S3, S4⟩, Ho, Hq, Hl, Hn⟩ Hk
  ihave S1 := s1 $$ S1
  ihave S2 := s2 $$ S2
  ihave S3 := s3 $$ S3
  ihave S4 := s4 $$ S4
  icases S1 with ⟨A1, S1⟩
  icases S2 with ⟨A2, S2⟩
  icases S3 with ⟨A3, S3⟩
  icases S4 with ⟨A4, S4⟩
  iapply t1 $$ [R1 A1 Ho]
  · isplitr; · iexact HK
    isplitl [R1]; · iexact R1
    isplitl [A1]; · iexact A1
    iexact Ho
  iintro ⟨C1, Ho⟩
  iapply t2 $$ [R2 A2 Ho]
  · isplitr; · iexact HK
    isplitl [R2]; · iexact R2
    isplitl [A2]; · iexact A2
    iexact Ho
  iintro ⟨C2, Ho⟩
  iapply t3 $$ [R3 A3 Ho]
  · isplitr; · iexact HK
    isplitl [R3]; · iexact R3
    isplitl [A3]; · iexact A3
    iexact Ho
  iintro ⟨C3, Ho⟩
  iapply t4 $$ [R4 A4 Ho]
  · isplitr; · iexact HK
    isplitl [R4]; · iexact R4
    isplitl [A4]; · iexact A4
    iexact Ho
  iintro ⟨C4, Ho⟩
  unfold stgs at hf
  iapply hf $$ [Hq S1 S2 S3 S4 Hl Hn]
  · isplitl [Hq]; · iexact Hq
    isplitl [S1 S2 S3 S4]
    · isplitl [S1]; · iexact S1
      isplitl [S2]; · iexact S2
      isplitl [S3]; · iexact S3
      iexact S4
    isplitl [Hl]; · iexact Hl
    iexact Hn
  iintro ⟨Hq, S, Hl, Hn⟩
  iapply Hk
  isplitl [C1 C2 C3 C4]
  · isplitl [C1]; · iexact C1
    isplitl [C2]; · iexact C2
    isplitl [C3]; · iexact C3
    iexact C4
  isplitl [S]; · iexact S
  isplitl [Ho]; · iexact Ho
  isplitl [Hq]; · iexact Hq
  isplitl [Hl]; · iexact Hl
  iexact Hn

theorem wp_tail (qq : PosShare TreeShare) (Q : Queries F) (P : Unit → sProp 𝕄) :
    iprop(Knows B K ∗ (Four fun d v => Mine c (d, v, 6)) ∗ (Four fun d v => Sent c (d, v, 6)) ∗ Owes c 0
        ∗ qPts c qq Q ∗ lPts c (ringL B c Q 6) ∗ oPts c (ringO B c Q 6))
      ⊢ iprop((((Four fun d v => Done c (d, v, 6)) ∗ (Four fun d v => srcPts B c (PosShare.left fullShare) (d, v, 6))
              ∗ slots c 6 fullShare (met B c 6) ∗ Owes c 0 ∗ qPts c qq Q ∗ lPts c (ringL B c Q 6) ∗ oPts c (ringOut B c Q))
            -∗ |={Set.univ}=> P ⟨⟩)
          -∗ wp frame (wpE (defs₀ (F := F)) 𝒱₀ (c : Thread nD τ) none) Set.univ (tailCode (F := F)) P) := by
  have hl := wp_lastLoop c qq fullShare Q (met B c 6) 6 (kk := fun _ => .ret ⟨⟩) (K := P) (ringL B c Q 6) (ringO B c Q 6) loop8 (fun k => rfl)
    off22_eq off23_eq off24_eq
  have t1 := wp_end B K c true false
    (endCode true true <| endCode false false <| endCode false true <| Prog.bind (k0_t1_loop.for k0_t1_ok ⟨⟩ loop8) fun _ => .ret ⟨⟩) P
  have t2 := wp_end B K c true true (endCode false false <| endCode false true <| Prog.bind (k0_t1_loop.for k0_t1_ok ⟨⟩ loop8) fun _ => .ret ⟨⟩) P
  have t3 := wp_end B K c false false (endCode false true <| Prog.bind (k0_t1_loop.for k0_t1_ok ⟨⟩ loop8) fun _ => .ret ⟨⟩) P
  have t4 := wp_end B K c false true (Prog.bind (k0_t1_loop.for k0_t1_ok ⟨⟩ loop8) fun _ => .ret ⟨⟩) P
  unfold Four Sent tailCode
  unfold slots at hl ⊢
  rw [wp_ret] at hl
  iintro ⟨#HK, ⟨M1, M2, M3, M4⟩, ⟨C1, C2, C3, C4⟩, Ho, Hq, Hl, Hn⟩ Hk
  iapply t1 $$ [M1 C1 Ho]
  · isplitr; · iexact HK
    isplitl [M1]; · iexact M1
    isplitl [C1]; · iexact C1
    iexact Ho
  iintro ⟨D1, S1, L1, Ho⟩
  iapply t2 $$ [M2 C2 Ho]
  · isplitr; · iexact HK
    isplitl [M2]; · iexact M2
    isplitl [C2]; · iexact C2
    iexact Ho
  iintro ⟨D2, S2, L2, Ho⟩
  iapply t3 $$ [M3 C3 Ho]
  · isplitr; · iexact HK
    isplitl [M3]; · iexact M3
    isplitl [C3]; · iexact C3
    iexact Ho
  iintro ⟨D3, S3, L3, Ho⟩
  iapply t4 $$ [M4 C4 Ho]
  · isplitr; · iexact HK
    isplitl [M4]; · iexact M4
    isplitl [C4]; · iexact C4
    iexact Ho
  iintro ⟨D4, S4, L4, Ho⟩
  iapply hl $$ [Hq L1 L2 L3 L4 Hl Hn]
  · isplitl [Hq]; · iexact Hq
    isplitl [L1 L2 L3 L4]
    · isplitl [L1]; · iexact L1
      isplitl [L2]; · iexact L2
      isplitl [L3]; · iexact L3
      iexact L4
    isplitl [Hl]; · iexact Hl
    iexact Hn
  iintro ⟨Hq, S, Hl, Hn⟩
  iapply Hk
  isplitl [D1 D2 D3 D4]
  · isplitl [D1]; · iexact D1
    isplitl [D2]; · iexact D2
    isplitl [D3]; · iexact D3
    iexact D4
  isplitl [S1 S2 S3 S4]
  · isplitl [S1]; · iexact S1
    isplitl [S2]; · iexact S2
    isplitl [S3]; · iexact S3
    iexact S4
  isplitl [S]; · iexact S
  isplitl [Ho]; · iexact Ho
  isplitl [Hq]; · iexact Hq
  isplitl [Hl]; · iexact Hl
  iexact Hn

end Cert.RingAttention

end
-- ==== Proof.Body.lean ====
module

public import proofs.«01_k».proof.Proof.Hops

/-!
# The body of the kernel

The whole body on a device given by a variable: from its tokens, positions, slots, staged blocks and accumulators to the
results, with every semaphore back at zero and every slot back in its owner's hands.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of steps -/

theorem sides_sum (P : Step → sProp 𝕄) :
    bigSep Finset.univ P = iprop((bigSep Finset.univ fun y : Half7 => P (true, y)) ∗ (bigSep Finset.univ fun y : Half7 => P (false, y))) := by
  rw [bigSep_univ_prod, show (Finset.univ : Finset Bool) = {true, false} from rfl, bigSep_insert (by decide), bigSep_singleton]
  rfl

theorem pairs_sum (P : Step × Bool → sProp 𝕄) :
    bigSep Finset.univ P = iprop((bigSep Finset.univ fun k : Step => P (k, true)) ∗ (bigSep Finset.univ fun k : Step => P (k, false))) := by
  rw [bigSep_univ_prod, show (Finset.univ : Finset Bool) = {true, false} from rfl]
  rw [show (fun a : Step => bigSep ({true, false} : Finset Bool) fun b => P (a, b)) = fun a => iprop(P (a, true) ∗ P (a, false)) from
    funext fun a => by rw [bigSep_insert (by decide), bigSep_singleton]; rfl]
  exact bigSep_sep' _ _ _

variable (B : Dev nD → Bool → Bool → Half F) (K : GSem nD τ sig → ℕ) (c : Dev nD)

/-- What a device keeps from the launch to start the copy of a step. -/
def Toks (k : Step) : sProp 𝕄 :=
  iprop(dutyTok ER (sendCell c k) 0 false ∗ dutyTok ER (recvCell (down k.1 c) k) 0 false ∗ reached ER (sendCell c k) 0)

/-- A slot of one's own, and that its receive cell is open. -/
def Own (k : Step) : sProp 𝕄 := iprop(slotAny (F := F) c k ∗ reached ER (recvCell c k) 0)

theorem own_pays : bigSep Finset.univ (Own (F := F) c) ⊢ iprop(barPay (F := F) (prv c) true ∗ barPay (F := F) (nxt c) false) := by
  rw [sides_sum]
  unfold barPay Own
  rw [down_prv, down_nxt]

theorem ready_all : iprop(bigSep Finset.univ (Toks (F := F) c) ∗ (barPay (F := F) c true ∗ barPay (F := F) c false))
    ⊢ bigSep Finset.univ (Ready (F := F) c) := by
  have h : iprop(barPay (F := F) c true ∗ barPay (F := F) c false)
      = bigSep Finset.univ fun k : Step => iprop(slotAny (F := F) (down k.1 c) k ∗ reached ER (recvCell (down k.1 c) k) 0) := by
    rw [sides_sum]; rfl
  rw [h, ← bigSep_sep']
  refine bigSep_mono fun k _ => ?_
  show iprop(Toks (F := F) c k ∗ _) ⊢ Ready (F := F) c k
  unfold Toks Ready
  iintro ⟨⟨H1, H2, H3⟩, H4⟩
  isplitl [H1]; · iexact H1
  isplitl [H2]; · iexact H2
  isplitl [H3]; · iexact H3
  iexact H4

theorem slot_any (k : Step) (X : Half F) : slotPts c k fullShare X ⊢ slotAny c k := by
  unfold slotAny slotPts
  iintro H
  iexists (slotBuf c k X); iexact H

/-- The slots of a hop, the copies out of them over, are back. -/
theorem slots_back (h : Fin 7) (hh : h.val + 1 < 7) :
    iprop((Four fun d v => srcPts B c (PosShare.left fullShare) (d, v, ⟨h.val + 1, hh⟩)) ∗ slots c h (PosShare.right fullShare) (met B c h.val))
      ⊢ Four fun d v => slotAny (F := F) c (d, v, h) :=
  (four_sep _ _).trans (four_mono fun d v => (slot_whole c (d, v, h) (landed B c (d, v, h))).trans (slot_any c (d, v, h) _))

theorem stgs_back : iprop((Four fun d v => srcPts B c (PosShare.left fullShare) (d, v, 0)) ∗ stgs c (PosShare.right fullShare) (B c))
      ⊢ stgs c fullShare (B c) :=
  (four_sep _ _).trans (four_mono fun d v => stg_join c d v (B c d v))

theorem close_step (x : Step × Bool) : iprop(Knows B K ∗ atPos ER (stepCell c x) 1 ∅ 0) ⊢ iprop(|={Set.univ}=> semVal (stepCell c x) 0 : sProp 𝕄) := by
  have hS := Knows_step B K c x
  iintro ⟨HK, Ha⟩
  ihave HS := hS $$ HK
  iapply (Rounds.cell_close ER (Rd B) (g := stepCell c x) (κ := K (stepCell c x)) (Set.mem_univ _) (fun h => h) (R := 1) (duties_later B (stepCell c x)))
  isplitl [HS]; · iexact HS
  iexact Ha

theorem close_bar : iprop(Knows B K ∗ atPos ER (barCell c) 1 ∅ 0) ⊢ iprop(|={Set.univ}=> semVal (barCell c) 0 : sProp 𝕄) := by
  have hS := Knows_bar B K c
  iintro ⟨HK, Ha⟩
  ihave HS := hS $$ HK
  iapply (Rounds.cell_close ER (Rd B) (g := barCell c) (κ := K (barCell c)) (Set.mem_univ _) (fun h => h) (R := 1) (duties_later B (barCell c)))
  isplitl [HS]; · iexact HS
  iexact Ha

theorem close_all : iprop(Knows B K ∗ bigSep Finset.univ (Done (F := F) c))
    ⊢ iprop(|={Set.univ}=> (bigSep Finset.univ fun x : Step × Bool => semVal (stepCell c x) 0) : sProp 𝕄) := by
  have h1 : bigSep Finset.univ (Done (F := F) c) = bigSep Finset.univ fun x : Step × Bool => (atPos ER (stepCell c x) 1 ∅ 0 : sProp 𝕄) := by
    rw [pairs_sum]
    exact bigSep_sep' _ _ _
  rw [h1]
  exact (bigSep_with_persistent fun x _ => close_step B K c x).trans (bigSep_fupd _ _)

/-- What the body starts from. -/
def RingPre (qq : PosShare TreeShare) (Q : Queries F) (l0 : Dens F) (o0 : Nums F) : sProp 𝕄 :=
  iprop(bigSep Finset.univ (Own (F := F) c)
    ∗ (dutyTok ER (barCell (prv c)) 0 true ∗ dutyTok ER (barCell (nxt c)) 0 false)
    ∗ (reached ER (barCell (prv c)) 0 ∗ reached ER (barCell (nxt c)) 0)
    ∗ atPos ER (barCell c) 0 ∅ 0 ∗ cred (tallyAt (barCell c) () 2) ∗ Owes c (O₀ c)
    ∗ bigSep Finset.univ (Mine (F := F) c) ∗ bigSep Finset.univ (Toks (F := F) c)
    ∗ stgs c fullShare (B c) ∗ qPts c qq Q ∗ lPts c l0 ∗ oPts c o0)

/-- What it leaves. -/
def RingPost (qq : PosShare TreeShare) (Q : Queries F) : sProp 𝕄 :=
  iprop(bigSep Finset.univ (slotAny (F := F) c) ∗ semVal (barCell c) 0 ∗ (bigSep Finset.univ fun x : Step × Bool => semVal (stepCell c x) 0)
    ∗ Owes c 0 ∗ stgs c fullShare (B c) ∗ qPts c qq Q ∗ (∃ l, lPts c l) ∗ oPts c (ringOut B c Q))

theorem wp_ring (qq : PosShare TreeShare) (Q : Queries F) (l0 : Dens F) (o0 : Nums F) :
    iprop(Knows B K ∗ RingPre B c qq Q l0 o0)
      ⊢ wp frame (wpE (defs₀ (F := F)) 𝒱₀ (c : Thread nD τ) none) Set.univ (ringCode c) fun _ => RingPost B c qq Q := by
  have hown := own_pays (F := F) c
  have hready := ready_all (F := F) c
  have e7 := (by decide : ∀ c : Dev nD, (⟨k0_dev7 c, k0_dev7_lt c⟩ : Dev nD) = down true c) c
  have e8 := (by decide : ∀ c : Dev nD, (⟨k0_dev8 c, k0_dev8_lt c⟩ : Dev nD) = down true c) c
  have e9 := (by decide : ∀ c : Dev nD, (⟨k0_dev9 c, k0_dev9_lt c⟩ : Dev nD) = down false c) c
  have e10 := (by decide : ∀ c : Dev nD, (⟨k0_dev10 c, k0_dev10_lt c⟩ : Dev nD) = down false c) c
  have e11 := (by decide : ∀ c : Dev nD, (⟨k0_dev11 c, k0_dev11_lt c⟩ : Dev nD) = down true c) c
  have e12 := (by decide : ∀ c : Dev nD, (⟨k0_dev12 c, k0_dev12_lt c⟩ : Dev nD) = down true c) c
  have e13 := (by decide : ∀ c : Dev nD, (⟨k0_dev13 c, k0_dev13_lt c⟩ : Dev nD) = down false c) c
  have e14 := (by decide : ∀ c : Dev nD, (⟨k0_dev14 c, k0_dev14_lt c⟩ : Dev nD) = down false c) c
  have e15 := (by decide : ∀ c : Dev nD, (⟨k0_dev15 c, k0_dev15_lt c⟩ : Dev nD) = down true c) c
  have e16 := (by decide : ∀ c : Dev nD, (⟨k0_dev16 c, k0_dev16_lt c⟩ : Dev nD) = down true c) c
  have e17 := (by decide : ∀ c : Dev nD, (⟨k0_dev17 c, k0_dev17_lt c⟩ : Dev nD) = down false c) c
  have e18 := (by decide : ∀ c : Dev nD, (⟨k0_dev18 c, k0_dev18_lt c⟩ : Dev nD) = down false c) c
  have e19 := (by decide : ∀ c : Dev nD, (⟨k0_dev19 c, k0_dev19_lt c⟩ : Dev nD) = down true c) c
  have e20 := (by decide : ∀ c : Dev nD, (⟨k0_dev20 c, k0_dev20_lt c⟩ : Dev nD) = down true c) c
  have e21 := (by decide : ∀ c : Dev nD, (⟨k0_dev21 c, k0_dev21_lt c⟩ : Dev nD) = down false c) c
  have e22 := (by decide : ∀ c : Dev nD, (⟨k0_dev22 c, k0_dev22_lt c⟩ : Dev nD) = down false c) c
  have e23 := (by decide : ∀ c : Dev nD, (⟨k0_dev23 c, k0_dev23_lt c⟩ : Dev nD) = down true c) c
  have e24 := (by decide : ∀ c : Dev nD, (⟨k0_dev24 c, k0_dev24_lt c⟩ : Dev nD) = down true c) c
  have e25 := (by decide : ∀ c : Dev nD, (⟨k0_dev25 c, k0_dev25_lt c⟩ : Dev nD) = down false c) c
  have e26 := (by decide : ∀ c : Dev nD, (⟨k0_dev26 c, k0_dev26_lt c⟩ : Dev nD) = down false c) c
  have e27 := (by decide : ∀ c : Dev nD, (⟨k0_dev27 c, k0_dev27_lt c⟩ : Dev nD) = down true c) c
  have e28 := (by decide : ∀ c : Dev nD, (⟨k0_dev28 c, k0_dev28_lt c⟩ : Dev nD) = down true c) c
  have e29 := (by decide : ∀ c : Dev nD, (⟨k0_dev29 c, k0_dev29_lt c⟩ : Dev nD) = down false c) c
  have e30 := (by decide : ∀ c : Dev nD, (⟨k0_dev30 c, k0_dev30_lt c⟩ : Dev nD) = down false c) c
  have hm := wp_meet B K c (headCode c <| hopCode0 c <| hopCode1 c <| hopCode2 c <| hopCode3 c <| hopCode4 c <| hopCode5 c <| tailCode)
    (fun _ => RingPost B c qq Q)
  have hh := wp_head B K c qq Q l0 o0 (hopCode0 c <| hopCode1 c <| hopCode2 c <| hopCode3 c <| hopCode4 c <| hopCode5 c <| tailCode)
    (fun _ => RingPost B c qq Q)
  have h0 := wp_hop B K c 0 (by decide) _ _ _ _ e7 e8 e9 e10 qq Q (hopCode1 c <| hopCode2 c <| hopCode3 c <| hopCode4 c <| hopCode5 c <| tailCode)
    (fun _ => RingPost B c qq Q) loop2 (fun k => rfl) off4_eq off5_eq off6_eq
  have h1 := wp_hop B K c 1 (by decide) _ _ _ _ e11 e12 e13 e14 qq Q (hopCode2 c <| hopCode3 c <| hopCode4 c <| hopCode5 c <| tailCode)
    (fun _ => RingPost B c qq Q) loop3 (fun k => rfl) off7_eq off8_eq off9_eq
  have h2 := wp_hop B K c 2 (by decide) _ _ _ _ e15 e16 e17 e18 qq Q (hopCode3 c <| hopCode4 c <| hopCode5 c <| tailCode)
    (fun _ => RingPost B c qq Q) loop4 (fun k => rfl) off10_eq off11_eq off12_eq
  have h3 := wp_hop B K c 3 (by decide) _ _ _ _ e19 e20 e21 e22 qq Q (hopCode4 c <| hopCode5 c <| tailCode)
    (fun _ => RingPost B c qq Q) loop5 (fun k => rfl) off13_eq off14_eq off15_eq
  have h4 := wp_hop B K c 4 (by decide) _ _ _ _ e23 e24 e25 e26 qq Q (hopCode5 c <| tailCode)
    (fun _ => RingPost B c qq Q) loop6 (fun k => rfl) off16_eq off17_eq off18_eq
  have h5 := wp_hop B K c 5 (by decide) _ _ _ _ e27 e28 e29 e30 qq Q tailCode
    (fun _ => RingPost B c qq Q) loop7 (fun k => rfl) off19_eq off20_eq off21_eq
  have ht := wp_tail B K c qq Q (fun _ => RingPost B c qq Q)
  have b0 := slots_back B c 0 (by decide)
  have b1 := slots_back B c 1 (by decide)
  have b2 := slots_back B c 2 (by decide)
  have b3 := slots_back B c 3 (by decide)
  have b4 := slots_back B c 4 (by decide)
  have b5 := slots_back B c 5 (by decide)
  have b6 : slots c 6 fullShare (met B c 6) ⊢ Four fun d v => slotAny (F := F) c (d, v, 6) := four_mono fun d v => slot_any c (d, v, 6) _
  have bs := stgs_back B c
  have hcl := close_all B K c
  have hcb := close_bar B K c
  have sA := Entails.of_eq (hops_sum (slotAny (F := F) c)).symm
  have sD := Entails.of_eq (hops_sum (Done (F := F) c)).symm
  rw [hops_sum (Ready (F := F) c)] at hready
  unfold RingPre
  rw [hops_sum (Mine (F := F) c)]
  unfold ringCode
  iintro ⟨#HK, Hown, HT, HR, Ha, Hc, Ho, ⟨M0, M1, M2, M3, M4, M5, M6⟩, Htok, Hs, Hq, Hl, Hn⟩
  ihave Hpay := hown $$ Hown
  iapply hm $$ [Hpay HT HR Ha Hc Ho]
  · isplitr; · iexact HK
    isplitl [Hpay]; · iexact Hpay
    isplitl [HT]; · iexact HT
    isplitl [HR]; · iexact HR
    isplitl [Ha]; · iexact Ha
    isplitl [Hc]; · iexact Hc
    iexact Ho
  iintro ⟨Ha, Hpay, Ho⟩
  ihave HR := hready $$ [Htok Hpay]
  · isplitl [Htok]; · iexact Htok
    iexact Hpay
  icases HR with ⟨R0, R1, R2, R3, R4, R5, R6⟩
  iapply hh $$ [R0 Hs Ho Hq Hl Hn]
  · isplitr; · iexact HK
    isplitl [R0]; · iexact R0
    isplitl [Hs]; · iexact Hs
    isplitl [Ho]; · iexact Ho
    isplitl [Hq]; · iexact Hq
    isplitl [Hl]; · iexact Hl
    iexact Hn
  iintro ⟨C, Hs, Ho, Hq, Hl, Hn⟩
  iapply h0 $$ [M0 R1 C Ho Hq Hl Hn]
  · isplitr; · iexact HK
    isplitl [M0]; · iexact M0
    isplitl [R1]; · iexact R1
    isplitl [C]; · iexact C
    isplitl [Ho]; · iexact Ho
    isplitl [Hq]; · iexact Hq
    isplitl [Hl]; · iexact Hl
    iexact Hn
  iintro ⟨D0, S0, L0, C, Ho, Hq, Hl, Hn⟩
  iapply h1 $$ [M1 R2 C Ho Hq Hl Hn]
  · isplitr; · iexact HK
    isplitl [M1]; · iexact M1
    isplitl [R2]; · iexact R2
    isplitl [C]; · iexact C
    isplitl [Ho]; · iexact Ho
    isplitl [Hq]; · iexact Hq
    isplitl [Hl]; · iexact Hl
    iexact Hn
  iintro ⟨D1, S1, L1, C, Ho, Hq, Hl, Hn⟩
  iapply h2 $$ [M2 R3 C Ho Hq Hl Hn]
  · isplitr; · iexact HK
    isplitl [M2]; · iexact M2
    isplitl [R3]; · iexact R3
    isplitl [C]; · iexact C
    isplitl [Ho]; · iexact Ho
    isplitl [Hq]; · iexact Hq
    isplitl [Hl]; · iexact Hl
    iexact Hn
  iintro ⟨D2, S2, L2, C, Ho, Hq, Hl, Hn⟩
  iapply h3 $$ [M3 R4 C Ho Hq Hl Hn]
  · isplitr; · iexact HK
    isplitl [M3]; · iexact M3
    isplitl [R4]; · iexact R4
    isplitl [C]; · iexact C
    isplitl [Ho]; · iexact Ho
    isplitl [Hq]; · iexact Hq
    isplitl [Hl]; · iexact Hl
    iexact Hn
  iintro ⟨D3, S3, L3, C, Ho, Hq, Hl, Hn⟩
  iapply h4 $$ [M4 R5 C Ho Hq Hl Hn]
  · isplitr; · iexact HK
    isplitl [M4]; · iexact M4
    isplitl [R5]; · iexact R5
    isplitl [C]; · iexact C
    isplitl [Ho]; · iexact Ho
    isplitl [Hq]; · iexact Hq
    isplitl [Hl]; · iexact Hl
    iexact Hn
  iintro ⟨D4, S4, L4, C, Ho, Hq, Hl, Hn⟩
  iapply h5 $$ [M5 R6 C Ho Hq Hl Hn]
  · isplitr; · iexact HK
    isplitl [M5]; · iexact M5
    isplitl [R6]; · iexact R6
    isplitl [C]; · iexact C
    isplitl [Ho]; · iexact Ho
    isplitl [Hq]; · iexact Hq
    isplitl [Hl]; · iexact Hl
    iexact Hn
  iintro ⟨D5, S5, L5, C, Ho, Hq, Hl, Hn⟩
  iapply ht $$ [M6 C Ho Hq Hl Hn]
  · isplitr; · iexact HK
    isplitl [M6]; · iexact M6
    isplitl [C]; · iexact C
    isplitl [Ho]; · iexact Ho
    isplitl [Hq]; · iexact Hq
    isplitl [Hl]; · iexact Hl
    iexact Hn
  iintro ⟨D6, S6, L6, Ho, Hq, Hl, Hn⟩
  ihave A0 := b0 $$ [S1 L0]
  · isplitl [S1]; · iexact S1
    iexact L0
  ihave A1 := b1 $$ [S2 L1]
  · isplitl [S2]; · iexact S2
    iexact L1
  ihave A2 := b2 $$ [S3 L2]
  · isplitl [S3]; · iexact S3
    iexact L2
  ihave A3 := b3 $$ [S4 L3]
  · isplitl [S4]; · iexact S4
    iexact L3
  ihave A4 := b4 $$ [S5 L4]
  · isplitl [S5]; · iexact S5
    iexact L4
  ihave A5 := b5 $$ [S6 L5]
  · isplitl [S6]; · iexact S6
    iexact L5
  ihave A6 := b6 $$ L6
  ihave Hs := bs $$ [S0 Hs]
  · isplitl [S0]; · iexact S0
    iexact Hs
  ihave HA := sA $$ [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  ihave HD := sD $$ [D0 D1 D2 D3 D4 D5 D6]
  · isplitl [D0]; · iexact D0
    isplitl [D1]; · iexact D1
    isplitl [D2]; · iexact D2
    isplitl [D3]; · iexact D3
    isplitl [D4]; · iexact D4
    isplitl [D5]; · iexact D5
    iexact D6
  imod hcl $$ [HD] with HV
  · isplitr; · iexact HK
    iexact HD
  imod hcb $$ [Ha] with Hb
  · isplitr; · iexact HK
    iexact Ha
  imodintro
  unfold RingPost
  isplitl [HA]; · iexact HA
  isplitl [Hb]; · iexact Hb
  isplitl [HV]; · iexact HV
  isplitl [Ho]; · iexact Ho
  isplitl [Hs]; · iexact Hs
  isplitl [Hq]; · iexact Hq
  isplitl [Hl]; · iexists _; iexact Hl
  iexact Hn

end Cert.RingAttention

end
-- ==== Proof.Slots.lean ====
module

public import proofs.«01_k».proof.Proof.Body
public import proofs.«01_k».proof.Proof.Gen.KernelIdeal.Launch
public import Idealize.ShloMosaic.Lib.Ring

/-!
# Receive buffers and their slots

A receive buffer held whole is held slot by slot, and its seven slots, each at any contents, join back to it.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The element sets of the slots -/

theorem slab_mem (h : Fin 7) (x : S7x2x8x64x256.Idx) :
    x ∈ (Rect.unit (s := S7x2x8x64x256) ![h.val, 0, 0, 0, 0] S1x2x8x64x256.size (slab_inb h)).set ↔ (x 0).val = h.val := by
  rw [Rect.mem_set_unit]
  constructor
  · intro H
    have h0 := H 0
    have e1 : (![h.val, 0, 0, 0, 0] : Fin 5 → ℕ) 0 = h.val := rfl
    have e2 : S1x2x8x64x256.size 0 = 1 := rfl
    rw [e1, e2] at h0
    omega
  · intro H a
    match a with
    | ⟨0, _⟩ => show h.val ≤ (x 0).val ∧ (x 0).val < h.val + 1; omega
    | ⟨1, _⟩ => exact ⟨Nat.zero_le _, (Nat.zero_add _).symm ▸ (x 1).isLt⟩
    | ⟨2, _⟩ => exact ⟨Nat.zero_le _, (Nat.zero_add _).symm ▸ (x 2).isLt⟩
    | ⟨3, _⟩ => exact ⟨Nat.zero_le _, (Nat.zero_add _).symm ▸ (x 3).isLt⟩
    | ⟨4, _⟩ => exact ⟨Nat.zero_le _, (Nat.zero_add _).symm ▸ (x 4).isLt⟩

/-- The elements of slot `h`, among those of the buffer. -/
abbrev slotSet (M : Memref sig .tc .vmem S7x2x8x64x256 .bf16) (h : Fin 7) : Finset M.view.ty.Idx := (slotOf M h).view.set

theorem slotOf_set (M : Memref sig .tc .vmem S7x2x8x64x256 .bf16) (h : Fin 7) :
    slotSet M h = (Rect.unit (s := S7x2x8x64x256) ![h.val, 0, 0, 0, 0] S1x2x8x64x256.size (slab_inb h)).set.map M.view.emb :=
  (View.set_reshape _ _).trans (View.set_slice _ _)

theorem slotOf_disjoint (M : Memref sig .tc .vmem S7x2x8x64x256 .bf16) (h h' : Fin 7) (hn : h ≠ h') :
    Disjoint (slotSet M h) (slotSet M h') := by
  rw [slotOf_set, slotOf_set, Finset.disjoint_map, Finset.disjoint_left]
  intro x hx hx'
  exact hn (Fin.ext (((slab_mem h x).mp hx).symm.trans ((slab_mem h' x).mp hx')))

theorem slotOf_cover (M : Memref sig .tc .vmem S7x2x8x64x256 .bf16) (hM : M.view.set = Finset.univ) :
    Finset.univ.biUnion (slotSet M) = Finset.univ := by
  refine Finset.eq_univ_iff_forall.mpr fun i => ?_
  have hi : i ∈ M.view.set := hM ▸ Finset.mem_univ i
  obtain ⟨x, -, rfl⟩ := Finset.mem_map.mp hi
  have hx : M.view.emb x ∈ slotSet M (show Fin 7 from x 0) :=
    (slotOf_set M (show Fin 7 from x 0)).symm ▸ Finset.mem_map_of_mem _ ((slab_mem (show Fin 7 from x 0) x).mpr rfl)
  exact Finset.mem_biUnion.mpr ⟨_, Finset.mem_univ _, hx⟩

/-! ## Splitting and joining -/

/-- A receive buffer of `c`, whole, at any contents. -/
def ringAny (c : Dev nD) (d v : Bool) : sProp 𝕄 :=
  iprop(∃ f : Buf (Elt F) ((buf d v).view.loc (c : Thread nD τ)), (buf d v).view.loc (c : Thread nD τ) ↦{fullShare} f)

section

variable (c : Dev nD) (M : Memref sig .tc .vmem S7x2x8x64x256 .bf16) (hM : M.view.set = Finset.univ)
include hM

theorem blocks_split (f : Buf (Elt F) (M.view.loc (c : Thread nD τ))) :
    (M.view.loc (c : Thread nD τ) ↦{fullShare} f : sProp 𝕄)
      ⊢ bigSep Finset.univ fun h : Fin 7 => iprop(∃ f : Buf (Elt F) (M.view.loc (c : Thread nD τ)),
        M.view.loc (c : Thread nD τ) ↦[slotSet M h]{fullShare} f) := by
  rw [Ring.pointsTo_blocks (ℓ := M.view.loc (c : Thread nD τ)) (slotSet M) (slotOf_disjoint M) (slotOf_cover M hM) f]
  have e : ∀ h : Fin 7, (M.view.loc (c : Thread nD τ) ↦[slotSet M h]{fullShare} f : sProp 𝕄)
      ⊢ iprop(∃ f : Buf (Elt F) (M.view.loc (c : Thread nD τ)), M.view.loc (c : Thread nD τ) ↦[slotSet M h]{fullShare} f) := fun h => by
    iintro H; iexists f; iexact H
  exact bigSep_mono fun h _ => e h

theorem blocks_join (f₀ : Buf (Elt F) (M.view.loc (c : Thread nD τ))) :
    (bigSep Finset.univ fun h : Fin 7 => iprop(∃ f : Buf (Elt F) (M.view.loc (c : Thread nD τ)),
        M.view.loc (c : Thread nD τ) ↦[slotSet M h]{fullShare} f))
      ⊢ (iprop(∃ g, M.view.loc (c : Thread nD τ) ↦{fullShare} g) : sProp 𝕄) :=
  Ring.pointsTo_blocks_join_exists (ℓ := M.view.loc (c : Thread nD τ)) (slotSet M) (slotOf_disjoint M) (slotOf_cover M hM) f₀

end

theorem ring_split (c : Dev nD) (d v : Bool) :
    (ringAny c d v : sProp 𝕄) ⊢ bigSep Finset.univ fun h : Fin 7 => slotAny (F := F) c (d, v, h) := by
  unfold ringAny slotAny
  iintro ⟨%f, H⟩
  iapply (blocks_split c (buf d v) (buf_whole d v).set_eq_univ f) $$ H

theorem ring_join (c : Dev nD) (d v : Bool) :
    (bigSep Finset.univ fun h : Fin 7 => slotAny (F := F) c (d, v, h)) ⊢ (ringAny c d v : sProp 𝕄) := by
  unfold ringAny slotAny
  exact blocks_join c (buf d v) (buf_whole d v).set_eq_univ (match d, v with
      | true, false => spread fun _ => FloatOps.ofBits .bf16 0#16
      | true, true => spread fun _ => FloatOps.ofBits .bf16 0#16
      | false, false => spread fun _ => FloatOps.ofBits .bf16 0#16
      | false, true => spread fun _ => FloatOps.ofBits .bf16 0#16)

theorem bools_sum {A : Bool → sProp 𝕄} : bigSep Finset.univ A = iprop(A true ∗ A false) := by
  rw [show (Finset.univ : Finset Bool) = {true, false} from rfl, bigSep_insert (by decide), bigSep_singleton]
  rfl

/-- The steps chain by chain. -/
theorem chains_sum (P : Step → sProp 𝕄) : bigSep Finset.univ P
    = iprop(((bigSep Finset.univ fun h : Fin 7 => P (true, true, h)) ∗ (bigSep Finset.univ fun h : Fin 7 => P (true, false, h)))
      ∗ ((bigSep Finset.univ fun h : Fin 7 => P (false, true, h)) ∗ (bigSep Finset.univ fun h : Fin 7 => P (false, false, h)))) := by
  rw [bigSep_univ_prod, bools_sum, bigSep_univ_prod, bigSep_univ_prod, bools_sum, bools_sum]

theorem rings_split (c : Dev nD) : iprop(ringAny c true false ∗ ringAny c true true ∗ ringAny c false false ∗ ringAny c false true)
    ⊢ (bigSep Finset.univ (slotAny (F := F) c) : sProp 𝕄) := by
  rw [chains_sum]
  iintro ⟨H1, H2, H3, H4⟩
  isplitl [H1 H2]
  · isplitl [H2]
    · iapply (ring_split c true true) $$ H2
    · iapply (ring_split c true false) $$ H1
  · isplitl [H4]
    · iapply (ring_split c false true) $$ H4
    · iapply (ring_split c false false) $$ H3

theorem rings_join (c : Dev nD) : (bigSep Finset.univ (slotAny (F := F) c) : sProp 𝕄)
    ⊢ iprop(ringAny c true false ∗ ringAny c true true ∗ ringAny c false false ∗ ringAny c false true) := by
  rw [chains_sum]
  iintro ⟨⟨H2, H1⟩, H4, H3⟩
  isplitl [H1]; · iapply (ring_join c true false) $$ H1
  isplitl [H2]; · iapply (ring_join c true true) $$ H2
  isplitl [H3]; · iapply (ring_join c false false) $$ H3
  iapply (ring_join c false true) $$ H4

end Cert.RingAttention

end
-- ==== Proof.Dat.lean ====
module

public import proofs.«01_k».proof.Proof.Slots
public import proofs.«01_k».proof.Proof.Gen.KernelIdeal.Points
public import Idealize.ShloMosaic.Lib.Pipeline.FrameBody
public import Idealize.ShloMosaic.Lib.Pipeline.ValueKit

/-!
# The kernel call's proof data

The contents of a device's windows before and after the body, what the body is entered from and what it leaves, and the
body obligation of the call: the run of `Body.lean` between them.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The contents of the devices' buffers when the call is entered. -/
abbrev Mem (F : FTy → Type) : Type := Dev nD → Valuation τ sig (Elt F)

variable (W : Mem F)

/-! ## What the call reads -/

/-- The queries of `c`. -/
def queries (c : Dev nD) : Queries F := W c (Proc.devRef .tc main_v4)

/-- The half blocks of `c`: of keys (`false`) and of values (`true`), the half that travels down (`true`) and the one that
    travels up. -/
def blocks (c : Dev nD) : Bool → Bool → Half F
  | true, false => W c (Proc.devRef .tc main_v9)
  | true, true => W c (Proc.devRef .tc main_v11)
  | false, false => W c (Proc.devRef .tc main_v10)
  | false, true => W c (Proc.devRef .tc main_v12)

/-- The result of `c`. -/
def result (c : Dev nD) : Nums F := ringOut (blocks W) c (queries W c)

/-! ## The proof data -/

/-- What the protocol needs of the launch on `c`, with the step cells open. -/
def Talk (c : Dev nD) : sProp 𝕄 :=
  iprop((∃ K, Knows (blocks W) K)
    ∗ (dutyTok ER (barCell (prv c)) 0 true ∗ dutyTok ER (barCell (nxt c)) 0 false)
    ∗ (reached ER (barCell (prv c)) 0 ∗ reached ER (barCell (nxt c)) 0)
    ∗ atPos ER (barCell c) 0 ∅ 0 ∗ cred (tallyAt (barCell c) () 2)
    ∗ bigSep Finset.univ (Mine (F := F) c) ∗ bigSep Finset.univ (Toks (F := F) c)
    ∗ bigSep Finset.univ fun k : Step => reached ER (recvCell c k) 0)

/-- What the body is entered from, beside its windows. -/
def Enter (c : Dev nD) : sProp 𝕄 :=
  iprop(Talk W c ∗ bigSep Finset.univ (slotAny (F := F) c) ∗ (∃ l : Dens F, lPts c l) ∗ ∃ r, prngReg c r)

/-- What the body leaves, beside its windows. -/
def Leave (c : Dev nD) : sProp 𝕄 :=
  iprop(semVal (barCell c) 0 ∗ (bigSep Finset.univ fun x : Step × Bool => semVal (stepCell c x) 0)
    ∗ bigSep Finset.univ (slotAny (F := F) c) ∗ (∃ l : Dens F, lPts c l) ∗ ∃ r, prngReg c r)

/-- What the body leaves in each window. -/
def leaves (c : Dev nD) : (w : Fin cfg0.W) → Fin cfg0.N → (cfg0.win w).block.Idx → Elt F (cfg0.win w).elt
  | 0 => fun _ => queries W c
  | 1 => fun _ => blocks W c true false
  | 2 => fun _ => blocks W c true true
  | 3 => fun _ => blocks W c false false
  | 4 => fun _ => blocks W c false true
  | 5 => fun _ => result W c
  | ⟨_ + 6, h⟩ => absurd h (Nat.not_lt.2 (Nat.le_add_left _ _))

def dat (c : Dev nD) : Dat τ (Elt F) Unit ℕ UU ℕ cfg0 c where
  A w := W c (Proc.devRef .tc (Pipeline.arrRef spec0 w))
  after := leaves W c
  Φ t := if t.val = 0 then Enter W c else Leave c
  q _ := fullShare
  owed t := if t.val = 0 then O₀ c else 0

theorem owed_first (c : Dev nD) : (dat W c).owed t0_0.castSucc = O₀ c := by
  show (if (t0_0.castSucc : Fin (cfg0.N + 1)).val = 0 then O₀ c else 0) = O₀ c; exact if_pos rfl
theorem owed_last (c : Dev nD) : (dat W c).owed t0_0.succ = 0 := by
  show (if (t0_0.succ : Fin (cfg0.N + 1)).val = 0 then O₀ c else 0) = 0; exact if_neg (Nat.succ_ne_zero _)
theorem inv_first (c : Dev nD) : (dat W c).Φ t0_0.castSucc = Enter W c := by
  show (if (t0_0.castSucc : Fin (cfg0.N + 1)).val = 0 then Enter W c else Leave c) = _; exact if_pos rfl
theorem inv_last (c : Dev nD) : (dat W c).Φ t0_0.succ = Leave c := by
  show (if (t0_0.succ : Fin (cfg0.N + 1)).val = 0 then Enter W c else Leave c) = _; exact if_neg (Nat.succ_ne_zero _)

section

variable {cfg : Cfg sig Λ₀} {c : Dev nD} (dt : Dat τ (Elt F) Unit ℕ UU ℕ cfg c) (t : Fin (cfg.N + 1)) (O : CellTallies nD τ sig Unit)
  (h0 : dt.owed t = O)
include h0

theorem owes_in (hr : dt.recorded t = Set.univ) : (Owes c O : sProp 𝕄) ⊢ dt.owesAt () t := by
  unfold Owes Dat.owesAt Pipeline.owesWithin Dat.bound
  rw [h0, hr]
  iintro ⟨%Wt, H⟩
  iexists Wt
  isplitr
  · ipureintro; exact fun _ _ => Or.inl trivial
  iexact H

theorem owes_out : (dt.owesAt () t : sProp 𝕄) ⊢ Owes c O := by
  unfold Owes Dat.owesAt Pipeline.owesWithin
  rw [h0]
  iintro ⟨%Wt, -, H⟩
  iexists Wt
  iexact H

end

/-! ## The windows -/

theorem owns_q (c : Dev nD) (X : Queries F) : (owns (c : Thread nD τ) (st0_0 t0_0) fullShare X : sProp 𝕄) ⊢ qPts c fullShare X := by
  unfold owns
  rw [(stage_whole0 0 0).set_eq_univ]
  iintro ⟨%f, %hf, H⟩
  obtain rfl : qBuf c X = f := hf.symm
  iexact H

theorem q_owns (c : Dev nD) (X : Queries F) : qPts c fullShare X ⊢ (owns (c : Thread nD τ) (st0_0 t0_0) fullShare X : sProp 𝕄) := by
  unfold owns
  rw [(stage_whole0 0 0).set_eq_univ]
  iintro H
  iexists (qBuf c X)
  isplitr
  · ipureintro; rfl
  iexact H

theorem owns_o (c : Dev nD) (X : Nums F) : (owns (c : Thread nD τ) (st0_5 t0_0) fullShare X : sProp 𝕄) ⊢ oPts c X := by
  unfold owns
  rw [(stage_whole0 5 0).set_eq_univ]
  iintro ⟨%f, %hf, H⟩
  obtain rfl : oBuf c X = f := hf.symm
  iexact H

theorem o_owns (c : Dev nD) (X : Nums F) : oPts c X ⊢ (owns (c : Thread nD τ) (st0_5 t0_0) fullShare X : sProp 𝕄) := by
  unfold owns
  rw [(stage_whole0 5 0).set_eq_univ]
  iintro H
  iexists (oBuf c X)
  isplitr
  · ipureintro; rfl
  iexact H

theorem read_stg (c : Dev nD) (d v : Bool) (X : Half F) : (stg d v).view.read (Elt F) (stgBuf c d v X) = X := by
  cases d <;> cases v <;> rfl

theorem stg_of_read (c : Dev nD) (d v : Bool) (X : Half F) (f : Buf (Elt F) ((stg d v).view.loc (c : Thread nD τ)))
    (hf : (stg d v).view.read (Elt F) f = X) : f = stgBuf c d v X := by
  cases d <;> cases v <;> exact hf

theorem owns_stg (c : Dev nD) (d v : Bool) (X : Half F) : (owns (c : Thread nD τ) (stg d v) fullShare X : sProp 𝕄) ⊢ stgPts c d v fullShare X := by
  unfold owns stgPts
  iintro ⟨%f, %hf, H⟩
  obtain rfl := stg_of_read c d v X f hf
  iexact H

theorem stg_owns (c : Dev nD) (d v : Bool) (X : Half F) : stgPts c d v fullShare X ⊢ (owns (c : Thread nD τ) (stg d v) fullShare X : sProp 𝕄) := by
  unfold owns stgPts
  iintro H
  iexists (stgBuf c d v X)
  isplitr
  · ipureintro; exact read_stg c d v X
  iexact H

theorem before_0 (c : Dev nD) (d) : (dat W c).before 0 t0_0 d = queries W c := by
  refine ((dat W c).before_fetched 0 t0_0 (fetch0_0 t0_0) d).trans ?_
  funext i
  show W c (Proc.devRef .tc main_v4) ((win0_0.blk t0_0).view.emb i) = W c (Proc.devRef .tc main_v4) i
  refine congrArg _ (funext fun a => Fin.ext ?_)
  exact win0_0.rect_emb_val_of_index_zero _ a rfl i

theorem before_1 (c : Dev nD) (d) : (dat W c).before 1 t0_0 d = blocks W c true false := by
  refine ((dat W c).before_fetched 1 t0_0 (fetch0_1 t0_0) d).trans ?_
  funext i
  show W c (Proc.devRef .tc main_v9) ((win0_1.blk t0_0).view.emb i) = W c (Proc.devRef .tc main_v9) i
  refine congrArg _ (funext fun a => Fin.ext ?_)
  exact win0_1.rect_emb_val_of_index_zero _ a rfl i

theorem before_2 (c : Dev nD) (d) : (dat W c).before 2 t0_0 d = blocks W c true true := by
  refine ((dat W c).before_fetched 2 t0_0 (fetch0_2 t0_0) d).trans ?_
  funext i
  show W c (Proc.devRef .tc main_v11) ((win0_2.blk t0_0).view.emb i) = W c (Proc.devRef .tc main_v11) i
  refine congrArg _ (funext fun a => Fin.ext ?_)
  exact win0_2.rect_emb_val_of_index_zero _ a rfl i

theorem before_3 (c : Dev nD) (d) : (dat W c).before 3 t0_0 d = blocks W c false false := by
  refine ((dat W c).before_fetched 3 t0_0 (fetch0_3 t0_0) d).trans ?_
  funext i
  show W c (Proc.devRef .tc main_v10) ((win0_3.blk t0_0).view.emb i) = W c (Proc.devRef .tc main_v10) i
  refine congrArg _ (funext fun a => Fin.ext ?_)
  exact win0_3.rect_emb_val_of_index_zero _ a rfl i

theorem before_4 (c : Dev nD) (d) : (dat W c).before 4 t0_0 d = blocks W c false true := by
  refine ((dat W c).before_fetched 4 t0_0 (fetch0_4 t0_0) d).trans ?_
  funext i
  show W c (Proc.devRef .tc main_v12) ((win0_4.blk t0_0).view.emb i) = W c (Proc.devRef .tc main_v12) i
  refine congrArg _ (funext fun a => Fin.ext ?_)
  exact win0_4.rect_emb_val_of_index_zero _ a rfl i

/-! ## The body obligation -/

theorem windows_in (c : Dev nD) :
    (bigSep Finset.univ fun w : Fin 6 => iprop(∃ d, owns (c : Thread nD τ) ((cfg0.win w).stage (cfg0.slots t0_0 w)) fullShare ((dat W c).before w t0_0 d)))
      ⊢ (iprop(stgs c fullShare (blocks W c) ∗ qPts c fullShare (queries W c) ∗ ∃ o : Nums F, oPts c o) : sProp 𝕄) := by
  rw [bigSep_W0]
  unfold stgs
  iintro ⟨⟨%d0, H0⟩, ⟨%d1, H1⟩, ⟨%d2, H2⟩, ⟨%d3, H3⟩, ⟨%d4, H4⟩, ⟨%d5, H5⟩⟩
  rw [before_0, before_1, before_2, before_3, before_4]
  isplitl [H1 H2 H3 H4]
  · isplitl [H1]; · iapply (owns_stg c true false (blocks W c true false)) $$ H1
    isplitl [H2]; · iapply (owns_stg c true true (blocks W c true true)) $$ H2
    isplitl [H3]; · iapply (owns_stg c false false (blocks W c false false)) $$ H3
    iapply (owns_stg c false true (blocks W c false true)) $$ H4
  isplitl [H0]; · iapply (owns_q c (queries W c)) $$ H0
  iexists ((dat W c).before 5 t0_0 d5)
  iapply (owns_o c ((dat W c).before 5 t0_0 d5)) $$ H5

theorem windows_out (c : Dev nD) :
    (iprop(stgs c fullShare (blocks W c) ∗ qPts c fullShare (queries W c) ∗ oPts c (result W c)) : sProp 𝕄)
      ⊢ bigSep Finset.univ fun w : Fin 6 => owns (c : Thread nD τ) ((cfg0.win w).stage (cfg0.slots t0_0 w)) fullShare ((dat W c).after w t0_0) := by
  rw [bigSep_W0]
  unfold stgs
  iintro ⟨⟨H1, H2, H3, H4⟩, H0, H5⟩
  isplitl [H0]; · iapply (q_owns c (queries W c)) $$ H0
  isplitl [H1]; · iapply (stg_owns c true false (blocks W c true false)) $$ H1
  isplitl [H2]; · iapply (stg_owns c true true (blocks W c true true)) $$ H2
  isplitl [H3]; · iapply (stg_owns c false false (blocks W c false false)) $$ H3
  isplitl [H4]; · iapply (stg_owns c false true (blocks W c false true)) $$ H4
  iapply (o_owns c (result W c)) $$ H5

/-- What the body is entered from. -/
def BodyIn (c : Dev nD) : sProp 𝕄 :=
  iprop(Enter W c ∗ Owes c (O₀ c) ∗ (stgs c fullShare (blocks W c) ∗ qPts c fullShare (queries W c) ∗ ∃ o : Nums F, oPts c o))

/-- What it leaves. -/
def BodyOut (c : Dev nD) : sProp 𝕄 :=
  iprop(Leave (F := F) c ∗ Owes c 0 ∗ (stgs c fullShare (blocks W c) ∗ qPts c fullShare (queries W c) ∗ oPts c (result W c)))

/-- The run of the body, stated over what the call enters it from and what it must leave. -/
theorem run_body (c : Dev nD) :
    BodyIn W c ⊢ wp frame (wpE (defs₀ (F := F)) 𝒱₀ (c : Thread nD τ) none) Set.univ (ringCode c) fun _ => BodyOut W c := by
  unfold BodyIn BodyOut Enter Talk
  iintro ⟨⟨⟨⟨%K, HK⟩, Hd, Hr, Ha, Hc, Hm, Ht, Hv⟩, Hs, ⟨%l, Hl⟩, Hp⟩, HO, Hst, Hq, ⟨%o, Ho⟩⟩
  have hown : iprop(bigSep Finset.univ (slotAny (F := F) c) ∗ bigSep Finset.univ fun k : Step => reached ER (recvCell c k) 0)
      ⊢ (bigSep Finset.univ (Own (F := F) c) : sProp 𝕄) := Entails.of_eq (bigSep_sep' _ _ _).symm
  iapply (wp_wand_r frame (wpE (defs₀ (F := F)) 𝒱₀ (c : Thread nD τ) none) Set.univ)
  isplitr [Hp]
  · iapply (wp_ring (blocks W) K c fullShare (queries W c) l o)
    isplitl [HK]; · iexact HK
    unfold RingPre
    isplitl [Hs Hv]
    · iapply hown
      isplitl [Hs] <;> iassumption
    isplitl [Hd]; · iexact Hd
    isplitl [Hr]; · iexact Hr
    isplitl [Ha]; · iexact Ha
    isplitl [Hc]; · iexact Hc
    isplitl [HO]; · iexact HO
    isplitl [Hm]; · iexact Hm
    isplitl [Ht]; · iexact Ht
    isplitl [Hst]; · iexact Hst
    isplitl [Hq]; · iexact Hq
    isplitl [Hl]; · iexact Hl
    iexact Ho
  unfold RingPost Leave
  iintro %_ ⟨Hs, Hb, Hx, HO, Hst, Hq, Hl, Ho⟩
  isplitl [Hs Hb Hx Hl Hp]
  · isplitl [Hb]; · iexact Hb
    isplitl [Hx]; · iexact Hx
    isplitl [Hs]; · iexact Hs
    isplitl [Hl]; · iexact Hl
    iexact Hp
  isplitl [HO]; · iexact HO
  isplitl [Hst]; · iexact Hst
  isplitl [Hq]; · iexact Hq
  iexact Ho

/-- The body obligation of the call. -/
theorem body (c : Dev nD) : BodyObligation (dat W c) (defs₀ (F := F)) 𝒱₀ () Set.univ := fun t => by
  obtain rfl := fin_N0 t
  rw [inv_first, inv_last]
  have hin := owes_out (dat W c) t0_0.castSucc (O₀ c) (owed_first W c)
  have hout := owes_in (dat W c) t0_0.succ 0 (owed_last W c) rfl
  have hrun : BodyIn W c ⊢ wp frame (wpE (defs₀ (F := F)) 𝒱₀ (c : Thread nD τ) none) Set.univ (bodyAt0 (F := F) t0_0) fun _ => BodyOut W c := by
    rw [body_eq, wp_deviceId]
    exact run_body W c
  show iprop(Enter W c ∗ (dat W c).owesAt () t0_0.castSucc
      ∗ bigSep Finset.univ fun w : Fin 6 => iprop(∃ d, owns (c : Thread nD τ) ((cfg0.win w).stage (cfg0.slots t0_0 w)) fullShare ((dat W c).before w t0_0 d)))
    ⊢ wp frame (wpE (defs₀ (F := F)) 𝒱₀ (c : Thread nD τ) none) Set.univ (bodyAt0 (F := F) t0_0) fun _ =>
      iprop(Leave (F := F) c ∗ (dat W c).owesAt () t0_0.succ
        ∗ bigSep Finset.univ fun w : Fin 6 => owns (c : Thread nD τ) ((cfg0.win w).stage (cfg0.slots t0_0 w)) fullShare ((dat W c).after w t0_0))
  refine (BI.sep_mono (BI.Entails.refl _) (BI.sep_mono hin (windows_in W c))).trans (hrun.trans (wp_mono _ _ _ fun _ => ?_))
  exact BI.sep_mono (BI.Entails.refl _) (BI.sep_mono hout (windows_out W c))

end Cert.RingAttention

end
-- ==== Proof.Region.lean ====
module

public import proofs.«01_k».proof.Proof.Dat
public import proofs.«01_k».proof.Proof.Gen.KernelIdeal.Launch
public import proofs.«01_k».proof.Proof.Gen.KernelIdeal.Frame
public import Idealize.ShloMosaic.Lib.Rounds.Family
public import Idealize.ShloMosaic.Lib.Pipeline.RegionTalk
public import Idealize.ShloMosaic.Lib.Pipeline.ValueKit.Geometry

/-!
# The kernel call as a segment of the program

The call is entered with the buffers outside it, the ghost state of the launch (its step cells still closed), and what the
device owes; it opens its step cells, runs the body, and leaves the result in its array with every counter back at zero.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (W : Mem F)

/-! ## Opening the step cells -/

/-- The invariants of all cells at names `K`. -/
def Cells (K : GSem nD τ sig → ℕ) : sProp 𝕄 :=
  iprop((bigSep Finset.univ fun c : Dev nD => cellInv ER (Rd (blocks W)) (K (barCell c)) (barCell c))
    ∗ (bigSep Finset.univ fun p : Dev nD × (Step × Bool) => cellInv ER (Rd (blocks W)) (K (stepCell p.1 p.2)) (stepCell p.1 p.2)))

instance Cells_persistent (K : GSem nD τ sig → ℕ) : BI.Persistent (Cells W K) := by unfold Cells; infer_instance

theorem Cells_step (K : GSem nD τ sig → ℕ) (c : Dev nD) (x : Step × Bool) :
    Cells W K ⊢ (cellInv ER (Rd (blocks W)) (K (stepCell c x)) (stepCell c x) : sProp 𝕄) := by
  have h : (bigSep Finset.univ fun p : Dev nD × (Step × Bool) => cellInv ER (Rd (blocks W)) (K (stepCell p.1 p.2)) (stepCell p.1 p.2))
      ⊢ (cellInv ER (Rd (blocks W)) (K (stepCell c x)) (stepCell c x) : sProp 𝕄) := bigSep_elim (Finset.mem_univ (c, x))
  unfold Cells
  iintro ⟨-, H⟩
  iapply h; iexact H

/-- The tokens of the duties `c` pays: on its own send cell of a step, and on the receive cell the copy lands at. -/
def Pays (c : Dev nD) (k : Step) : sProp 𝕄 :=
  iprop(dutyTok ER (sendCell c k) 0 false ∗ dutyTok ER (recvCell (down k.1 c) k) 0 false)

/-- What the launch leaves on `c` for the call, the step cells closed. -/
def Kept (c : Dev nD) : sProp 𝕄 :=
  iprop((∃ K, Cells W K)
    ∗ (dutyTok ER (barCell (prv c)) 0 true ∗ dutyTok ER (barCell (nxt c)) 0 false)
    ∗ (reached ER (barCell (prv c)) 0 ∗ reached ER (barCell (nxt c)) 0)
    ∗ atPos ER (barCell c) 0 ∅ 0 ∗ cred (tallyAt (barCell c) () 2)
    ∗ (bigSep Finset.univ fun k : Step => cred (tallyAt (recvCell c k) () N))
    ∗ bigSep Finset.univ (Pays (F := F) c)
    ∗ bigSep Finset.univ fun x : Step × Bool => openTok ER (stepCell c x))

/-- The open step cells of `c`, with what it holds for each step, regrouped by step. -/
theorem regroup (c : Dev nD) :
    iprop((bigSep Finset.univ fun x : Step × Bool => iprop(atPos ER (stepCell c x) 0 ∅ 0 ∗ reached ER (stepCell c x) 0))
      ∗ (bigSep Finset.univ fun k : Step => cred (tallyAt (recvCell c k) () N)) ∗ bigSep Finset.univ (Pays (F := F) c))
    ⊢ (iprop(bigSep Finset.univ (Mine (F := F) c) ∗ bigSep Finset.univ (Toks (F := F) c)
      ∗ bigSep Finset.univ fun k : Step => reached ER (recvCell c k) 0) : sProp 𝕄) := by
  rw [bigSep_univ_prod, ← bigSep_sep', ← bigSep_sep', ← bigSep_sep', ← bigSep_sep']
  have e : ∀ k : Step, iprop((bigSep Finset.univ fun b : Bool => iprop(atPos ER (stepCell c (k, b)) 0 ∅ 0 ∗ reached ER (stepCell c (k, b)) 0))
        ∗ cred (tallyAt (recvCell c k) () N) ∗ Pays (F := F) c k)
      ⊢ (iprop(Mine (F := F) c k ∗ Toks (F := F) c k ∗ reached ER (recvCell c k) 0) : sProp 𝕄) := fun k => by
    rw [bools_sum]
    unfold Pays Mine Toks
    iintro ⟨⟨⟨Has, #Hrs⟩, ⟨Har, #Hrr⟩⟩, Hc, Hd, Hd'⟩
    isplitl [Has Har Hc]
    · isplitl [Has]; · iexact Has
      isplitl [Har]; · iexact Har
      iexact Hc
    isplitl [Hd Hd']
    · isplitl [Hd]; · iexact Hd
      isplitl [Hd']; · iexact Hd'
      iexact Hrs
    iexact Hrr
  exact bigSep_mono fun k _ => e k

/-- The step cells are opened with their counters in hand. -/
theorem kept_open (c : Dev nD) :
    iprop(Kept W c ∗ Pipeline.ownSems0 stepSem c ∗ levAts L lv) ⊢ (|={Set.univ}=> Talk W c : sProp 𝕄) := by
  have hopen (K : GSem nD τ sig → ℕ) :=
    Rounds.cells_open (Name := ℕ) (Lvl := ℕ) ER (Rd (F := F) (blocks W)) (Finset.univ : Finset (Step × Bool)) (fun x => stepCell c x)
      (fun x => K (stepCell c x)) (Es := Set.univ) fun _ _ => Set.mem_univ _
  have hinv (K : GSem nD τ sig → ℕ) (x : Step × Bool) : iprop(Cells W K ∗ openTok ER (stepCell c x))
      ⊢ (iprop(cellInv ER (Rd (blocks W)) (K (stepCell c x)) (stepCell c x) ∗ openTok ER (stepCell c x)) : sProp 𝕄) :=
    BI.sep_mono (Cells_step W K c x) (BI.Entails.refl _)
  unfold Kept Talk
  iintro ⟨⟨⟨%K, #HC⟩, Hd, #Hr, Ha, Hc, Hm, Ht, Ho⟩, Hv, #Hlev⟩
  imod (hopen K) $$ [Hv Ho] with Hs
  · isplitl [Ho]
    · iapply (bigSep_with_persistent (R := Cells W K) (Φ := fun x => openTok ER (stepCell c x)) fun x _ => hinv K x)
      isplitr; · iexact HC
      iexact Ho
    · unfold Pipeline.ownSems0
      iexact Hv
  imodintro
  ihave Hg := (regroup (F := F) c) $$ [Hs Hm Ht]
  · isplitl [Hs]; · iexact Hs
    isplitl [Hm] <;> iassumption
  icases Hg with ⟨Hm, Ht, Hv⟩
  isplitr
  · iexists K
    unfold Knows Cells
    icases HC with ⟨H1, H2⟩
    isplitl [H1]; · iexact H1
    isplitl [H2]; · iexact H2
    iexact Hlev
  isplitl [Hd]; · iexact Hd
  isplitr; · iexact Hr
  isplitl [Ha]; · iexact Ha
  isplitl [Hc]; · iexact Hc
  isplitl [Hm]; · iexact Hm
  isplitl [Ht]; · iexact Ht
  iexact Hv

/-! ## The call -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat W
  | ⟨_ + 1, h⟩ => absurd h (Nat.not_lt.2 (Nat.le_add_left _ _))

theorem call_owed_first (c : Dev nD) : (pdats W 0 c).owed 0 = O₀ c := by
  show (if ((0 : Fin (cfg0.N + 1)).val = 0) then O₀ c else 0) = O₀ c; exact if_pos rfl
theorem call_owed_last (c : Dev nD) : (pdats W 0 c).owed (Fin.last _) = 0 := by
  show (if (Fin.last cfg0.N).val = 0 then O₀ c else 0) = 0
  rw [Fin.val_last, if_neg (by rw [show cfg0.N = 1 from N_0]; decide)]
theorem call_inv_first (c : Dev nD) : (pdats W 0 c).Φ 0 = Enter W c := by
  show (if ((0 : Fin (cfg0.N + 1)).val = 0) then Enter W c else Leave c) = _; exact if_pos rfl
theorem call_inv_last (c : Dev nD) : (pdats W 0 c).Φ (Fin.last _) = Leave c := by
  show (if (Fin.last cfg0.N).val = 0 then Enter W c else Leave c) = _
  rw [Fin.val_last, if_neg (by rw [show cfg0.N = 1 from N_0]; decide)]

theorem owed_pos (c : Dev nD) (g : GSem nD τ sig) (u : Unit) (h : 0 < O₀ c g u) : u ∈ L g ∧ 0 < lv g u := by
  have h' : 0 < rem c 28 g u + tallyAt (barCell (nxt c)) () 1 g u + tallyAt (barCell (prv c)) () 1 g u := h
  by_cases h1 : 0 < rem c 28 g u
  · obtain ⟨p, -, -, rfl⟩ := rem_pos c 28 g u h1
    exact ⟨by rw [L_tc]; exact Finset.mem_singleton_self _, by cases u; rw [lv_recv]; omega⟩
  · rw [tallyAt_apply, tallyAt_apply] at h'
    by_cases h2 : g = barCell (nxt c) ∧ u = ()
    · obtain ⟨rfl, -⟩ := h2
      exact ⟨by rw [L_tc]; exact Finset.mem_singleton_self _, by cases u; rw [lv_bar]; exact Nat.one_pos⟩
    · by_cases h3 : g = barCell (prv c) ∧ u = ()
      · obtain ⟨rfl, -⟩ := h3
        exact ⟨by rw [L_tc]; exact Finset.mem_singleton_self _, by cases u; rw [lv_bar]; exact Nat.one_pos⟩
      · rw [if_neg h2, if_neg h3] at h'; omega

theorem call_cut (c : Dev nD) (t : Fin ((Pipeline.pin (pcfgs (F := F)) adm 0).N + 1)) (g : GSem nD τ sig) (i : Unit)
    (h : 0 < (pdats W 0 c).owed t g i) : i ∈ L g ∧ 0 < lv g i := by
  have e : (pdats W 0 c).owed t = if t.val = 0 then O₀ c else 0 := rfl
  rw [e] at h
  split at h
  · exact owed_pos c g i h
  · exact absurd h (Nat.lt_irrefl 0)

theorem staging_rank : ∀ (w : Fin 6) (s : Fin ((spec0 w).nbuf)), roleOf (.dma ((spec0 w).sem s)) = none := by decide

/-- The buffers after the call: the result's array, everything else as it was. -/
def after (c : Dev nD) : Valuation τ sig (Elt F) := Function.update (W c) (Proc.devRef .tc main_v13) (result W c)

theorem after_out (c : Dev nD) : after W c (Proc.devRef .tc main_v13) = result W c := Function.update_self ..
theorem after_of_ne (c : Dev nD) (b : DevRef τ sig) (h : b ≠ Proc.devRef .tc main_v13) : after W c b = W c b :=
  Function.update_of_ne h _ _

/-- The buffers beside the call's arrays. -/
def others : Finset (DevRef τ sig) := Pipeline.ucRefs τ sig \ Pipeline.arrRefs (τ := τ) spec0

theorem out_arr : Proc.devRef .tc main_v13 ∈ Pipeline.arrRefs (τ := τ) spec0 :=
  Finset.mem_map_of_mem _ (Finset.mem_image.mpr ⟨5, Finset.mem_univ _, rfl⟩)

theorem after_others (c : Dev nD) (b : DevRef τ sig) (hb : b ∈ others \ (∅ : Finset (DevRef τ sig))) : after W c b = W c b :=
  after_of_ne W c b fun h => (Finset.mem_sdiff.mp (Finset.mem_sdiff.mp hb).1).2 (h ▸ out_arr)

theorem lPts_any (c : Dev nD) : (iprop(∃ f : Buf (Elt F) ((c : Thread nD τ).loc cc0_scratch4), ((c : Thread nD τ).loc cc0_scratch4) ↦{fullShare} f) : sProp 𝕄)
    = iprop(∃ l : Dens F, lPts c l) := rfl

theorem rest_eq (c : Dev nD) : (Pipeline.scopedRest (Ix := Unit) (Name := ℕ) (U := UU) (Lvl := ℕ) (Val := Elt F) (Pipeline.pin (pcfgs (F := F)) adm 0).spec c : sProp 𝕄)
    = iprop(ringAny c true false ∗ ringAny c true true ∗ ringAny c false false ∗ ringAny c false true ∗ ∃ l : Dens F, lPts c l) :=
  scopedRest0_eq c

theorem call_in (c : Dev nD) :
    iprop(Pipeline.scopedRest (Pipeline.pin (pcfgs (F := F)) adm 0).spec c ∗ (∃ r, prngReg c r) ∗ StableHlo.held (c.tc : Thread nD τ) ∅ (W c) ∗ Talk W c)
      ⊢ (pdats W 0 c).Φ 0 := by
  rw [call_inv_first, rest_eq]
  unfold Enter
  iintro ⟨⟨H0, H1, H2, H3, Hl⟩, Hp, -, HT⟩
  isplitl [HT]; · iexact HT
  isplitl [H0 H1 H2 H3]
  · iapply (rings_split (F := F) c)
    isplitl [H0]; · iexact H0
    isplitl [H1]; · iexact H1
    isplitl [H2] <;> iassumption
  isplitl [Hl] <;> iassumption

theorem call_out (c : Dev nD) :
    (pdats W 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ (after W c) ∗ Pipeline.ownSems0 stepSem c ∗ semVal (barCell c) 0) := by
  rw [call_inv_last, rest_eq]
  unfold Leave Pipeline.ownSems0
  iintro ⟨Hb, Hx, Hs, Hl, Hp⟩
  ihave Hr := (rings_join (F := F) c) $$ Hs
  icases Hr with ⟨H0, H1, H2, H3⟩
  isplitl [H0 H1 H2 H3 Hl]
  · isplitl [H0]; · iexact H0
    isplitl [H1]; · iexact H1
    isplitl [H2]; · iexact H2
    isplitl [H3]; · iexact H3
    iexact Hl
  isplitl [Hp]; · iexact Hp
  isplitr; · unfold StableHlo.held; rw [bigSep_empty]; iempintro
  isplitl [Hx]; · iexact Hx
  iexact Hb

theorem call_share (c : Dev nD) (w : Fin 6) : (pdats W 0 c).share w = fullShare := by
  show (dat W c).share w = fullShare
  unfold Dat.share
  split <;> rfl

theorem call_entry (c : Dev nD) (w : Fin 6) :
    (pdats W 0 c).arrAt w 0 = W c (Proc.devRef .tc (Pipeline.arrRef (Pipeline.pin (pcfgs (F := F)) adm 0).spec w)) := rfl

theorem call_exit (c : Dev nD) : ∀ w : Fin 6,
    (pdats W 0 c).arrAt w (Pipeline.pin (pcfgs (F := F)) adm 0).N = after W c (Proc.devRef .tc (Pipeline.arrRef (Pipeline.pin (pcfgs (F := F)) adm 0).spec w))
  | 0 => ((dat W c).arrAt_in 0 rfl cfg0.N).trans (after_of_ne W c _ (StableHlo.devRef_ne_of_ne (by decide))).symm
  | 1 => ((dat W c).arrAt_in 1 rfl cfg0.N).trans (after_of_ne W c _ (StableHlo.devRef_ne_of_ne (by decide))).symm
  | 2 => ((dat W c).arrAt_in 2 rfl cfg0.N).trans (after_of_ne W c _ (StableHlo.devRef_ne_of_ne (by decide))).symm
  | 3 => ((dat W c).arrAt_in 3 rfl cfg0.N).trans (after_of_ne W c _ (StableHlo.devRef_ne_of_ne (by decide))).symm
  | 4 => ((dat W c).arrAt_in 4 rfl cfg0.N).trans (after_of_ne W c _ (StableHlo.devRef_ne_of_ne (by decide))).symm
  | 5 => ((dat W c).arrAt_eq_of_after_last 5 t0_0 (by decide +kernel) (result W c) fun j => rfl).trans (after_out W c).symm
  | ⟨_ + 6, h⟩ => absurd h (Nat.not_lt.2 (Nat.le_add_left _ _))

set_option backward.isDefEq.respectTransparency.types false in
/-- The call as a segment. -/
def call : Pipeline.RegionSeg (pcfgs (F := F)) adm (pdats W) () defs₀ 𝒱₀ L lv 0 :=
  Pipeline.RegionSeg.ofTalk (pcfgs (F := F)) adm (pdats W) () defs₀ 𝒱₀ L lv 0 stepSem (by decide : Pipeline.OwnSemFacts spec0 stepSem)
    ∅ others (Finset.empty_subset _) launch0.toP rfl (fun c => (body W c).loose)
    (fun _ => 0) O₀ (fun c => (call_owed_first W c).trans (zero_add _).symm) (call_owed_last W) (fun _ => rfl) (call_share W)
    W (after W) (after_others W)
    (Kept W) (fun c => semVal (barCell c) 0) (Talk W) (fun c => semVal (barCell c) 0) (kept_open W) (call_in W) (call_out W)
    (fun c => by iintro H; imodintro; iexact H)
    (fun _ => 0)
    ⟨fun c w s => by rw [L_tc]; exact Finset.mem_singleton_self _,
      fun c w s => le_of_eq (by
        show lv ((c : Thread nD τ), .dma ((spec0 w).sem s)) () = 0
        unfold lv
        rw [staging_rank w s]; rfl),
      fun c t g i h => call_cut W c t g i h⟩
    (fun _ => iprop(emp))
    (call_entry W) (call_exit W)

end Cert.RingAttention

end
-- ==== Proof.Launch.lean ====
module

public import proofs.«01_k».proof.Proof.Region
public import Idealize.ShloMosaic.Lib.Quiescent

/-!
# The launch

The ghost state of the protocol is made when the program starts and dealt to the devices: every device gets the tokens of
the duties it pays, the position of its barrier, the right to open its step cells, and the credits it waits with.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## Cells and tokens -/

def barEmb : Dev nD ↪ GSem nD τ sig := ⟨fun c => barCell c, fun _ _ h => congrArg (fun g : GSem nD τ sig => g.1.1) h⟩

theorem stepCell_inj {p q : Dev nD × (Step × Bool)} (h : stepCell p.1 p.2 = stepCell q.1 q.2) : p = q :=
  Prod.ext (congrArg (fun g : GSem nD τ sig => g.1.1) h) (stepSem_inj (congrArg Prod.snd h))

def stepEmb : Dev nD × (Step × Bool) ↪ GSem nD τ sig := ⟨fun p => stepCell p.1 p.2, fun _ _ h => stepCell_inj h⟩

abbrev barCells : Finset (GSem nD τ sig) := Finset.univ.map barEmb
abbrev stepCells : Finset (GSem nD τ sig) := Finset.univ.map stepEmb

theorem cells_disjoint : Disjoint (barCells : Finset (GSem nD τ sig)) stepCells := by
  rw [Finset.disjoint_left]
  rintro g h₁ h₂
  obtain ⟨c, -, rfl⟩ := Finset.mem_map.mp h₁
  obtain ⟨p, -, h⟩ := Finset.mem_map.mp h₂
  exact step_ne_bar p.2 (congrArg Prod.snd h)

def barTok : Dev nD × Bool ↪ GSem nD τ sig × ℕ × Bool :=
  ⟨fun p => (barCell p.1, 0, p.2), fun _ _ h =>
    Prod.ext (congrArg (fun t : GSem nD τ sig × ℕ × Bool => t.1.1.1) h) (congrArg (fun t : GSem nD τ sig × ℕ × Bool => t.2.2) h)⟩
def stepTok : Dev nD × (Step × Bool) ↪ GSem nD τ sig × ℕ × Bool :=
  ⟨fun p => (stepCell p.1 p.2, 0, false), fun _ _ h => stepCell_inj (congrArg Prod.fst h)⟩

def tokens : Finset (GSem nD τ sig × ℕ × Bool) := Finset.univ.map barTok ∪ Finset.univ.map stepTok

theorem tokens_disjoint : Disjoint (Finset.univ.map barTok : Finset (GSem nD τ sig × ℕ × Bool)) (Finset.univ.map stepTok) := by
  rw [Finset.disjoint_left]
  rintro g h₁ h₂
  obtain ⟨c, -, rfl⟩ := Finset.mem_map.mp h₁
  obtain ⟨p, -, h⟩ := Finset.mem_map.mp h₂
  exact step_ne_bar p.2 (congrArg (fun t : GSem nD τ sig × ℕ × Bool => t.1.2) h)

/-- A step's copy, seen from where it lands. -/
def across : Dev nD × Step ≃ Dev nD × Step :=
  ⟨fun p => (down p.2.1 p.1, p.2), fun p => (up p.2.1 p.1, p.2), fun p => Prod.ext (up_down _ _) rfl, fun p => Prod.ext (down_up _ _) rfl⟩

theorem bar_tokens : (bigSep (Finset.univ.map barTok) fun x => (dutyTok ER x.1 x.2.1 x.2.2 : sProp 𝕄))
    ⊢ bigSep Finset.univ fun c : Dev nD => iprop(dutyTok ER (barCell (prv c)) 0 true ∗ dutyTok ER (barCell (nxt c)) 0 false) := by
  have h1 := bigSep_univ_equiv (turn false) (fun c : Dev nD => (dutyTok ER (barCell c) 0 true : sProp 𝕄))
  have h2 := bigSep_univ_equiv (turn true) (fun c : Dev nD => (dutyTok ER (barCell c) 0 false : sProp 𝕄))
  rw [bigSep_map, bigSep_univ_prod, bigSep_sep']
  refine BI.Entails.trans ?_ (Entails.of_eq (congrArg₂ BIBase.sep h1 h2))
  rw [← bigSep_sep']
  exact Entails.of_eq (bigSep_congr fun c _ => bools_sum (F := F))

theorem step_tokens : (bigSep (Finset.univ.map stepTok) fun x => (dutyTok ER x.1 x.2.1 x.2.2 : sProp 𝕄))
    ⊢ bigSep Finset.univ fun c : Dev nD => bigSep Finset.univ (Pays (F := F) c) := by
  have e : (bigSep Finset.univ fun p : Dev nD × Step => iprop(dutyTok ER (sendCell p.1 p.2) 0 false ∗ dutyTok ER (recvCell p.1 p.2) 0 false))
      = (bigSep Finset.univ fun p : Dev nD × Step => Pays (F := F) p.1 p.2 : sProp 𝕄) := by
    unfold Pays
    rw [bigSep_sep', bigSep_sep', bigSep_univ_equiv across (fun p : Dev nD × Step => (dutyTok ER (recvCell p.1 p.2) 0 false : sProp 𝕄))]
    rfl
  rw [← bigSep_univ_prod fun p : Dev nD × Step => Pays (F := F) p.1 p.2, ← e, bigSep_map, bigSep_univ_prod, bigSep_univ_prod]
  refine Entails.of_eq (bigSep_congr fun c _ => ?_)
  rw [bigSep_univ_prod]
  exact bigSep_congr fun k _ => bools_sum (F := F)

/-! ## Credits -/

theorem recv_ne_bar (k : Step) : (SemLoc.dma (recvS k) : SemLoc sig) ≠ .reg barS := step_ne_bar (k, false)

theorem recvS_inj {j k : Step} (h : (SemLoc.dma (recvS j) : SemLoc sig) = .dma (recvS k)) : j = k :=
  congrArg Prod.fst (stepSem_inj (show stepSem (j, false) = stepSem (k, false) from h))

theorem rem_bar (d c : Dev nD) : ∀ j, rem d j (barCell c) () = 0
  | 0 => rfl
  | j + 1 => by
    show rem d j (barCell c) () + tallyAt (recvCell (down (stepAt (27 - j)).1 d) (stepAt (27 - j))) () N (barCell c) () = 0
    rw [rem_bar d c j, tallyAt_apply, if_neg fun h => recv_ne_bar _ (congrArg Prod.snd h.1).symm]

theorem rem_recv (d c : Dev nD) (k : Step) : ∀ j, j ≤ 28 →
    rem d j (recvCell c k) () = if 28 ≤ place k + j ∧ d = up k.1 c then N else 0
  | 0, _ => by
    rw [if_neg fun h => absurd (place_lt k) (by omega)]; rfl
  | j + 1, hj => by
    show rem d j (recvCell c k) () + tallyAt (recvCell (down (stepAt (27 - j)).1 d) (stepAt (27 - j))) () N (recvCell c k) () = _
    rw [rem_recv d c k j (by omega), tallyAt_apply]
    by_cases hk : stepAt (27 - j) = k
    · have hp : place k = 27 - j := by rw [← hk]; exact place_stepAt ⟨27 - j, by omega⟩
      rw [hk, if_neg (fun h => by omega), Nat.zero_add]
      by_cases hd : d = up k.1 c
      · subst hd
        rw [down_up, if_pos ⟨rfl, rfl⟩, if_pos ⟨by omega, rfl⟩]
      · rw [if_neg (fun h => hd ?_), if_neg fun h => hd h.2]
        have := congrArg (fun g : GSem nD τ sig => g.1.1) h.1
        rw [show c = down k.1 d from this, up_down]
    · have hp : place k ≠ 27 - j := fun h => hk (by rw [← h]; exact stepAt_place k)
      rw [if_neg (fun h : recvCell c k = _ ∧ _ => hk (recvS_inj (congrArg Prod.snd h.1)).symm), Nat.add_zero]
      refine if_congr ⟨fun h => ⟨by omega, h.2⟩, fun h => ⟨by omega, h.2⟩⟩ rfl rfl

theorem bar_owed (d c x : Dev nD) : tallyAt (barCell x) () 1 (barCell c) () = if x = c then 1 else 0 := by
  rw [tallyAt_apply]
  by_cases h : x = c
  · subst h; rw [if_pos ⟨rfl, rfl⟩, if_pos rfl]
  · rw [if_neg (fun e => h (congrArg (fun g : GSem nD τ sig => g.1.1) e.1).symm), if_neg h]

theorem owed_bar (d c : Dev nD) : O₀ d (barCell c) () = (if d = prv c then 1 else 0) + if d = nxt c then 1 else 0 := by
  show rem d 28 (barCell c) () + tallyAt (barCell (nxt d)) () 1 (barCell c) () + tallyAt (barCell (prv d)) () 1 (barCell c) () = _
  rw [rem_bar, bar_owed d c (nxt d), bar_owed d c (prv d), Nat.zero_add]
  have h1 : nxt d = c ↔ d = prv c := (by decide : ∀ d c : Dev nD, nxt d = c ↔ d = prv c) d c
  have h2 : prv d = c ↔ d = nxt c := (by decide : ∀ d c : Dev nD, prv d = c ↔ d = nxt c) d c
  rw [if_congr h1 rfl rfl, if_congr h2 rfl rfl]

theorem owed_recv (d c : Dev nD) (k : Step) : O₀ d (recvCell c k) () = if d = up k.1 c then N else 0 := by
  show rem d 28 (recvCell c k) () + tallyAt (barCell (nxt d)) () 1 (recvCell c k) () + tallyAt (barCell (prv d)) () 1 (recvCell c k) () = _
  rw [rem_recv d c k 28 le_rfl, tallyAt_apply, tallyAt_apply, if_neg (fun h : recvCell c k = barCell (nxt d) ∧ _ => recv_ne_bar k (congrArg Prod.snd h.1)),
    if_neg (fun h : recvCell c k = barCell (prv d) ∧ _ => recv_ne_bar k (congrArg Prod.snd h.1)), Nat.add_zero, Nat.add_zero]
  exact if_congr ⟨fun h => h.2, fun h => ⟨by omega, h⟩⟩ rfl rfl

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1,
    if_pos (Finset.mem_univ _), if_pos (Finset.mem_univ _)]

theorem credit_recv (c : Dev nD) (k : Step) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (up k.1 c) fun _ => N, if_pos (Finset.mem_univ _)]

def recvEmb : Step ↪ SemLoc sig := ⟨fun k => .dma (recvS k), fun _ _ h => recvS_inj h⟩

/-- The credits `c` waits with. -/
theorem credits (c : Dev nD) : (Pipeline.launchCred O₀ c : sProp 𝕄)
    ⊢ iprop(cred (tallyAt (barCell c) () 2) ∗ bigSep Finset.univ fun k : Step => cred (tallyAt (recvCell c k) () N)) := by
  unfold Pipeline.launchCred
  rw [bigSep_univ_at _ (SemLoc.reg barS), credit_bar]
  refine sep_mono_right ?_
  have hsub : Finset.univ.map recvEmb ⊆ (Finset.univ.erase (SemLoc.reg barS) : Finset (SemLoc sig)) := fun sm h => by
    obtain ⟨k, -, rfl⟩ := Finset.mem_map.mp h
    exact Finset.mem_erase.mpr ⟨recv_ne_bar k, Finset.mem_univ _⟩
  refine (bigSep_subset hsub).trans ?_
  rw [bigSep_map]
  exact Entails.of_eq (bigSep_congr fun k _ => congrArg cred (credit_recv c k))

/-! ## Dealing -/

variable (m : (ℓ : Loc nD τ sig) → Buf (Elt F) ℓ) (ρ : Dev nD → PrngReg)

/-- The buffers as the call finds them: after the host lines before it. -/
def entry : Mem F := fun c => StableHlo.after hostOps0 fun b => m (c, b)

/-- What rides beside the buffers up to the call. -/
def Ride (c : Dev nD) : sProp 𝕄 := iprop(Kept (entry m) c ∗ (∃ r, prngReg c r) ∗ ∃ Wt, owes (c : Thread nD τ) (O₀ c) Wt)

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The protocol's part of the launch element. -/
abbrev seed : URounds (GSem nD τ sig) Bool := launchOf barCells stepCells tokens

def u₀ : UU :=
  (initOf (Pipeline.cells (Pipeline.pin (pcfgs (F := F)) adm) cellOf_inj) (Pipeline.launchToks (Pipeline.pin (pcfgs (F := F)) adm) cellOf_inj), seed)

/-- Parked on device 0 until it is dealt. -/
def park (c : Dev nD) : sProp 𝕄 := if c = 0 then BI.own (ER seed) else iprop(emp)

theorem park_all : bigSep Finset.univ (park (F := F)) = BI.own (ER seed) := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park; rw [if_pos rfl]
  exact BI.equiv_iff.mp sep_emp

/-- What every device may consult. -/
def Shared (κ : GSem nD τ sig → ℕ) : sProp 𝕄 :=
  iprop(Cells (entry m) κ ∗ bigSep Finset.univ fun c : Dev nD => reached ER (barCell c) 0)

instance Shared_persistent (κ : GSem nD τ sig → ℕ) : BI.Persistent (Shared m κ) := by unfold Shared; infer_instance

/-- What is dealt to `c` alone. -/
def Share (c : Dev nD) : sProp 𝕄 :=
  iprop(atPos ER (barCell c) 0 ∅ 0
    ∗ (bigSep Finset.univ fun x : Step × Bool => openTok ER (stepCell c x))
    ∗ (dutyTok ER (barCell (prv c)) 0 true ∗ dutyTok ER (barCell (nxt c)) 0 false)
    ∗ bigSep Finset.univ (Pays (F := F) c))

/-- What of a device's launch holdings is not the protocol's. -/
def Bundle (c : Dev nD) : sProp 𝕄 :=
  iprop(StableHlo.held (c : Thread nD τ) (Pipeline.ucRefs τ sig) (fun b => m (c, b)) ∗ cred (tallyAt (barCell c) () 2)
    ∗ (bigSep Finset.univ fun k : Step => cred (tallyAt (recvCell c k) () N))
    ∗ owes (c : Thread nD τ) (O₀ c) ∅ ∗ ∃ r, prngReg c r)

abbrev First (c : Dev nD) : sProp 𝕄 := iprop(StableHlo.held (c : Thread nD τ) (Pipeline.ucRefs τ sig) (fun b => m (c, b)) ∗ Ride m c)

theorem reached_at (c : Dev nD) : (bigSep Finset.univ fun c : Dev nD => (reached ER (barCell c) 0 : sProp 𝕄)) ⊢ reached ER (barCell c) 0 :=
  bigSep_elim (Finset.mem_univ c)

theorem first_intro (κ : GSem nD τ sig → ℕ) (c : Dev nD) : iprop(Shared m κ ∗ (Share c ∗ Bundle m c)) ⊢ First m c := by
  unfold Shared Share Bundle First Ride Kept
  iintro ⟨⟨#HC, #HR⟩, ⟨Ha, Ho, Hd, Ht⟩, Hh, Hb, Hc, HO, Hp⟩
  isplitl [Hh]; · iexact Hh
  isplitr [HO Hp]
  · isplitr; · iexists κ; iexact HC
    isplitl [Hd]; · iexact Hd
    isplitr
    · isplitr
      · iapply (reached_at (F := F) (prv c)); iexact HR
      · iapply (reached_at (F := F) (nxt c)); iexact HR
    isplitl [Ha]; · iexact Ha
    isplitl [Hb]; · iexact Hb
    isplitl [Hc]; · iexact Hc
    isplitl [Ht]; · iexact Ht
    iexact Ho
  isplitl [Hp]; · iexact Hp
  iexists ∅; iexact HO

/-- The launch: the ghost state made and dealt. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ park c)) ∗ levAts L lv)
      ⊢ (|={Set.univ}=> bigSep Finset.univ (First m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ park c)
      ⊢ (iprop(Bundle m c ∗ (semVal (barCell c) 0 ∗ park c)) : sProp 𝕄) := by
    rw [show unscopedBufs c (fun b => m ((c : Thread nD τ).loc b))
        = StableHlo.held (c : Thread nD τ) (Pipeline.ucRefs τ sig) (fun b => m (c, b)) from Pipeline.unscopedBufs_held c (fun b => m (c, b)),
      sems_eq]
    unfold Bundle
    iintro ⟨Hh, Hus, HO, Hcr, Hp, HG⟩
    ihave Hc := (credits (F := F) c) $$ Hcr
    icases Hc with ⟨Hb, Hc⟩
    isplitl [Hh Hb Hc HO Hp]
    · isplitl [Hh]; · iexact Hh
      isplitl [Hb]; · iexact Hb
      isplitl [Hc]; · iexact Hc
      isplitl [HO]; · iexact HO
      iexists (ρ c); iexact Hp
    isplitl [Hus] <;> iassumption
  have hcores : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ park c))
      ⊢ (bigSep Finset.univ fun c : Dev nD => iprop(Bundle m c ∗ (semVal (barCell c) 0 ∗ park c)) : sProp 𝕄) := bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep stepCells (fun g => (openTok ER g : sProp 𝕄))
      ⊢ bigSep Finset.univ (fun c : Dev nD => bigSep Finset.univ fun x : Step × Bool => openTok ER (stepCell c x)) :=
    Entails.of_eq (by rw [bigSep_map, bigSep_univ_prod]; rfl)
  have hinv (κ : GSem nD τ sig → ℕ) : bigSep (barCells ∪ stepCells) (fun g => (cellInv ER (Rd (blocks (entry m))) (κ g) g : sProp 𝕄)) ⊢ Cells (entry m) κ := by
    rw [bigSep_union cells_disjoint, bigSep_map, bigSep_map]
    exact BI.Entails.refl _
  have htok : bigSep tokens (fun x => (dutyTok ER x.1 x.2.1 x.2.2 : sProp 𝕄))
      ⊢ iprop((bigSep Finset.univ fun c : Dev nD => iprop(dutyTok ER (barCell (prv c)) 0 true ∗ dutyTok ER (barCell (nxt c)) 0 false))
        ∗ bigSep Finset.univ fun c : Dev nD => bigSep Finset.univ (Pays (F := F) c)) := by
    unfold tokens
    rw [bigSep_union tokens_disjoint]
    exact BI.sep_mono (bar_tokens (F := F)) (step_tokens (F := F))
  iintro ⟨H, -⟩
  ihave H' := hcores $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (park_all (F := F))) $$ HG
  imod (Rounds.fund_launch ER (Rd (F := F) (blocks (entry m))) cells_disjoint (fun g _ h => h) tokens) $$ [Hv Hu] with ⟨%κ, -, #Hinv, #Hr, Hat, Hopen, Htok⟩
  · isplitl [Hv]
    · iapply hv $$ Hv
    · iexact Hu
  imodintro
  ihave Ht := htok $$ Htok
  icases Ht with ⟨Ht1, Ht2⟩
  iapply (bigSep_with_persistent (R := Shared m κ) (Φ := fun c => iprop(Share c ∗ Bundle m c)) fun c _ => first_intro m κ c)
  isplitr
  · unfold Shared
    isplitr
    · iapply (hinv κ); iexact Hinv
    · iapply hr; iexact Hr
  iapply (Entails.of_eq (bigSep_sep' _ _ _).symm)
  isplitr [HB]
  · unfold Share
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (bigSep_sep' _ _ _).symm); isplitl [Ht1] <;> iassumption
  · iexact HB

end Cert.RingAttention

end
-- ==== Proof.Run.lean ====
module

public import proofs.«01_k».proof.Proof.Launch

/-!
# The run of the whole program

From any memory with zero counters, over any float values: every weakly fair execution of the program on the eight devices
terminates without a fault, leaves its arguments as they were and every counter at zero, and leaves on each device the
transpose of the call's result, a function of the arguments of all the devices.
-/

@[expose] public section

noncomputable section

namespace Cert.RingAttention

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers at the end -/

/-- The buffers at the end. -/
def final (c : Dev nD) : Valuation τ sig (Elt F) := StableHlo.after hostOps1 (after (entry m) c)

/-- The program's result on `c`. -/
def answer (c : Dev nD) : S2x512x8x64.Idx → Elt F .f32 :=
  transpose S2x512x8x64 [0, 3, 1, 2] (result (entry m) c) transposes_S2x8x64x512_S2x512x8x64_0_3_1_2

theorem final_out (c : Dev nD) : final m c (Proc.devRef .tc main_v14) = answer m c := by
  unfold final
  rw [StableHlo.after_cons, StableHlo.after_nil, StableHlo.unary_result, after_out]
  rfl

theorem final_of_ne (c : Dev nD) (b : Ref sig .tc) (h : b ≠ main_v14) (h' : b ≠ main_v13) :
    final m c (Proc.devRef .tc b) = entry m c (Proc.devRef .tc b) := by
  unfold final
  rw [StableHlo.after_cons, StableHlo.after_nil, StableHlo.unary_result_ne _ _ _ _ _ _ h,
    after_of_ne _ _ _ (StableHlo.devRef_ne_of_ne h')]

theorem final_arg0 (c : Dev nD) : final m c (Proc.devRef .tc main_arg0) = m ((c : Thread nD τ).loc main_arg0) :=
  (final_of_ne m c main_arg0 (by decide) (by decide)).trans (V_main_arg0 m c)
theorem final_arg1 (c : Dev nD) : final m c (Proc.devRef .tc main_arg1) = m ((c : Thread nD τ).loc main_arg1) :=
  (final_of_ne m c main_arg1 (by decide) (by decide)).trans (V_main_arg1 m c)
theorem final_arg2 (c : Dev nD) : final m c (Proc.devRef .tc main_arg2) = m ((c : Thread nD τ).loc main_arg2) :=
  (final_of_ne m c main_arg2 (by decide) (by decide)).trans (V_main_arg2 m c)

/-- The arguments and the result. -/
def ends : Finset (DevRef τ sig) :=
  {Proc.devRef .tc main_arg0, Proc.devRef .tc main_arg1, Proc.devRef .tc main_arg2, Proc.devRef .tc main_v14}

theorem ends_sub : (ends : Finset (DevRef τ sig)) ⊆ Pipeline.ucRefs τ sig := by decide

theorem ends_held (c : Dev nD) (V : Valuation τ sig (Elt F)) : (StableHlo.held (c : Thread nD τ) ends V : sProp 𝕄)
    = iprop(((c : Thread nD τ).loc main_arg0 ↦{fullShare} V (Proc.devRef .tc main_arg0))
      ∗ ((c : Thread nD τ).loc main_arg1 ↦{fullShare} V (Proc.devRef .tc main_arg1))
      ∗ ((c : Thread nD τ).loc main_arg2 ↦{fullShare} V (Proc.devRef .tc main_arg2))
      ∗ ((c : Thread nD τ).loc main_v14 ↦{fullShare} V (Proc.devRef .tc main_v14))) := by
  unfold StableHlo.held ends
  rw [bigSep_insert (by decide), bigSep_insert (by decide), bigSep_insert (by decide), bigSep_singleton]
  rfl

/-! ## The segments -/

local notation "ℍ" => Pipeline.HostSeg (Name := ℕ) (U := UU) (pcfgs (F := F)) defs₀ 𝒱₀ L lv

/-- What rides beside the buffers after the call. -/
def Rest (c : Dev nD) : sProp 𝕄 :=
  iprop(semVal (barCell c) 0 ∗ ∃ Wt, owes (c : Thread nD τ) (0 : CellTallies nD τ sig Unit) Wt)

/-- The host lines before the call. -/
def before : ℍ :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) (Ride m)

/-- The host line after it. -/
def behind : ℍ :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (after (entry m)) Rest

def segs : List (Pipeline.Seg (pcfgs (F := F)) adm (pdats (entry m)) () defs₀ 𝒱₀ L lv) :=
  [.host (before m), .region (call (entry m)), .host (behind m)]

theorem arr_sub : Pipeline.arrRefs (τ := τ) spec0 ⊆ Pipeline.ucRefs τ sig := Pipeline.arrRefs_sub_ucRefs spec0 launch0.win.arr_unscoped

theorem call_pre (c : Dev nD) :
    iprop(StableHlo.held (c : Thread nD τ) (Pipeline.ucRefs τ sig) (entry m c) ∗ Ride m c) ⊢ (call (entry m)).pre c := by
  show _ ⊢ iprop(StableHlo.held (c.tc : Thread nD τ) (Pipeline.arrRefs (τ := τ) spec0) (entry m c) ∗ (∃ r, prngReg c r)
    ∗ (StableHlo.held (c.tc : Thread nD τ) others (entry m c) ∗ emp) ∗ Kept (entry m) c ∗ ∃ Wd, owes (c : Thread nD τ) (0 + O₀ c) Wd)
  rw [zero_add, StableHlo.held_sub_split (c : Thread nD τ) arr_sub]
  unfold Ride others
  iintro ⟨⟨Ha, Ho⟩, HK, Hp, HO⟩
  isplitl [Ha]; · iexact Ha
  isplitl [Hp]; · iexact Hp
  isplitl [Ho]
  · isplitl [Ho]; · iexact Ho
    iempintro
  isplitl [HK] <;> iassumption

theorem call_post (c : Dev nD) : (call (entry m)).post c
    ⊢ iprop(StableHlo.held (c : Thread nD τ) (Pipeline.ucRefs τ sig) (after (entry m) c) ∗ Rest c) := by
  show iprop(StableHlo.held (c.tc : Thread nD τ) (Pipeline.arrRefs (τ := τ) spec0) (after (entry m) c) ∗ (∃ r, prngReg c r)
    ∗ (StableHlo.held (c.tc : Thread nD τ) others (after (entry m) c) ∗ emp) ∗ semVal (barCell c) 0
    ∗ ∃ Wd, owes (c : Thread nD τ) (0 : CellTallies nD τ sig Unit) Wd) ⊢ _
  rw [StableHlo.held_sub_split (c : Thread nD τ) arr_sub]
  unfold Rest others
  iintro ⟨Ha, -, ⟨Ho, -⟩, Hb, HO⟩
  isplitl [Ha Ho]
  · isplitl [Ha] <;> iassumption
  isplitl [Hb] <;> iassumption

theorem unscoped_sem : ∀ sm : SemLoc sig, sm.isScoped .tc = false → sm = .reg barS := by decide

/-- What a device ends with. -/
abbrev Last (c : Dev nD) : sProp 𝕄 := iprop(StableHlo.held (c : Thread nD τ) (Pipeline.ucRefs τ sig) (final m c) ∗ semVal (barCell c) 0)

/-- What is read of a device at the end. -/
def Reads (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v14) = answer m c)
  ∧ s.sem (barCell c) = 0

theorem last_reads (c : Dev nD) (s' : Phys nD τ sig (Elt F)) :
    iprop(Last m c ∗ SI s') ⊢ (|={Set.univ}=> iprop(⌜Reads m c s'.mem⌝ ∗ SI s') : sProp 𝕄) := by
  unfold Last
  rw [StableHlo.held_sub_split (c : Thread nD τ) ends_sub, ends_held, final_arg0, final_arg1, final_arg2, final_out]
  iintro ⟨⟨⟨⟨H0, H1, H2, H3⟩, -⟩, Hb⟩, HSI⟩
  icombine HSI H0 gives %h0
  icombine HSI H1 gives %h1
  icombine HSI H2 gives %h2
  icombine HSI H3 gives %h3
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3⟩,
      by simpa using hb⟩
  iexact HSI

set_option backward.isDefEq.respectTransparency.types false in
/-- THE RUN. -/
theorem run_main : θ_run defs (onTc (τ := τ) (main (F := F))) ⟨m, fun _ => 0, ρ⟩
    (fun r => (∀ c : Dev nD, Reads m c r.2) ∧ r.2.sem = fun _ => 0) :=
  Pipeline.θ_run_regions_kit_sems (pcfgs (F := F)) adm (pdats (entry m)) () cellOf_inj EP defs₀ 𝒱₀ L lv m ρ main (segs m)
    (fun c Q => by
      rw [main_segs adm (pdats (entry m)) () 𝒱₀ L lv (before m) (behind m) (call (entry m)) rfl rfl c]
      exact BI.Entails.refl _)
    (by simp only [segs, Pipeline.Seg.pipes_host, Pipeline.Seg.pipes_region, Pipeline.Seg.pipes_nil]; decide)
    (O₀ := O₀) (hL := L_of_ne) (G := park) (u₀ := u₀)
    (hu₀ := by
      unfold u₀
      iintro Hu
      ihave H := (ownU_pair _ _) $$ Hu
      icases H with ⟨HP, HX⟩
      imodintro
      isplitl [HP]; · iexact HP
      rw [park_all]; iexact HX)
    (T₀ := First m) (Tₙ := Last m)
    (hch := by
      refine ⟨fun c => BI.Entails.refl _, fun c => call_pre m c, fun c => call_post m c, fun c => ?_⟩
      show iprop(StableHlo.held (c : Thread nD τ) (Pipeline.ucRefs τ sig) (final m c) ∗ Rest c)
        ⊢ iprop(Last m c ∗ ∃ Wt, owes (c : Thread nD τ) (0 : CellTallies nD τ sig Unit) Wt)
      unfold Rest
      iintro ⟨Hh, Hb, HO⟩
      isplitr [HO]
      · isplitl [Hh] <;> iassumption
      · iexact HO)
    (hinit := deal m ρ)
    (QY := Reads m) (hfin := last_reads m)
    (hQ := fun s h hs => ⟨h, sem_eq_zero hs fun c sm hsm => by
      obtain rfl := unscoped_sem sm hsm
      exact (h c).2⟩)

end Cert.RingAttention

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.Lib.ReduceAll

/-!
# The programs run and leave their arguments alone

The two readings of the kernel follow from the one run of it over any float values; the reference is a straight line of
host operations. The facts of the printed precondition are stated here too.
-/

@[expose] public section

noncomputable section

namespace Cert.RingAttention

open Idealize.ShloMosaic Idealize.ShloMosaic.TcCoe Idealize.SL.Sem

/-- The precondition's shapes fit together, read of one device's blocks. -/
instance pre_block : Cert.Pre_finite_KernelIdeal.Facts where
  bcast_S_S2x512x8x64 := by decide
  reducesTo_S2x512x8x64_S_d0_1_2_3 := by decide
  h_S_ := by decide

/-- The precondition's shapes fit together, read of the whole arrays. -/
instance pre_whole : Cert.Pre_finite_ReferenceIdeal.Facts where
  bcast_S_S2x4096x8x64 := by decide
  reducesTo_S2x4096x8x64_S_d0_1_2_3 := by decide
  h_S_ := by decide

/-- The kernel over the extended reals runs, ends quiet and leaves its arguments alone. -/
theorem frame_kernelIdeal : Cert.quiescent_KernelIdeal := fun m ρ _ =>
  (θ_run Cert.KernelIdeal.defs _ _).mono (fun _ h => ⟨fun c => ⟨(h.1 c).1.1, (h.1 c).1.2.1, (h.1 c).1.2.2.1⟩, h.2⟩)
    (run_main (F := Ideal) m ρ)

/-- The two printings of the kernel have one body table. -/
theorem body_table : Cert.Kernel.defs₀ (F := Bits) = Cert.KernelIdeal.defs₀ (F := Bits) := by
  unfold Cert.Kernel.defs₀ Cert.KernelIdeal.defs₀
  refine congrArg _ ?_
  funext l x
  match l, x with
  | 0, (t, s) => rfl

/-- The same of the tables with the pipelines. -/
theorem table : Cert.Kernel.defs (F := Bits) = Cert.KernelIdeal.defs (F := Bits) :=
  congrArg (Pipeline.defs (Cert.KernelIdeal.pcfgs (F := Bits))) body_table

/-- The kernel over machine floats runs, ends quiet and leaves its arguments alone. -/
theorem frame_kernel : Cert.quiescent_Kernel := fun m ρ _ => by
  rw [table]
  exact (θ_run (Cert.KernelIdeal.defs (F := Bits)) _ _).mono
    (fun _ h => ⟨fun c => ⟨(h.1 c).1.1, (h.1 c).1.2.1, (h.1 c).1.2.2.1⟩, h.2⟩) (run_main (F := Bits) m ρ)

/-- The reference runs, ends quiet and leaves its arguments alone. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingAttention

end
-- ==== Proof.Ref.lean ====
module

public import proofs.«01_k».proof.Proof.Gen.ReferenceIdeal.Run
public import Idealize.ShloMosaic.Lib.Pointwise

/-!
# The reference, element by element

The reference's result over the extended reals: the scaled products of queries and keys, their greatest over the keys, the
exponentials of the differences, each divided by their sum, and the values weighted by these.
-/

@[expose] public section

set_option maxRecDepth 16384

noncomputable section

namespace Cert.RingAttention

open Cert.ReferenceIdeal Cert.ReferenceIdeal.Gen
open Idealize.ShloMosaic

/-- A whole argument array over the extended reals. -/
abbrev Whole : Type := FVec Ideal S2x4096x8x64 .f32

/-- One number for each query and key of a head. -/
abbrev Square : Type := FVec Ideal S2x8x4096x4096 .f32

/-- The scaled products of queries and keys. -/
def scores (Q K : Whole) : Square :=
  mulf (Host.dotGeneral dot_S2x4096x8x64_S2x4096x8x64_S2x8x4096x4096_3_3_1_1_02_02 none Q K)
    (broadcastInDim S2x8x4096x4096 ![] bcast_S_S2x8x4096x4096 (constant S_ .f32 0x3E000000#32))

/-- One number for each query, repeated along the keys. -/
def along (x : FVec Ideal S2x8x4096 .f32) : Square :=
  broadcastInDim S2x8x4096x4096 ![0, 1, 2, 3] bcast_S2x8x4096x1_S2x8x4096x4096_0_1_2_3
    (broadcastInDim S2x8x4096x1 ![0, 1, 2] bcast_S2x8x4096_S2x8x4096x1_0_1_2 x)

/-- The greatest score of each query. -/
def top (S : Square) : FVec Ideal S2x8x4096 .f32 :=
  Host.reduce FloatOps.maximumf S (constant (F := Ideal) S_ .f32 0xFF800000#32) reducesTo_S2x8x4096x4096_S2x8x4096_d3 h_S_

/-- The exponentials of the scores less their greatest. -/
def exps (S : Square) : Square := Host.exp (subf S (along (top S)))

/-- The sum over the keys. -/
def total (P : Square) : FVec Ideal S2x8x4096 .f32 :=
  Host.reduceAdd P (constant (F := Ideal) S_ .f32 0x00000000#32) reducesTo_S2x8x4096x4096_S2x8x4096_d3 h_S_

/-- The values weighted by the exponentials over their sum. -/
def mixed (P : Square) (V : Whole) : Whole :=
  transpose S2x4096x8x64 [0, 3, 1, 2]
    (Host.dotGeneral (F := Ideal) (φ₁ := .f32) (φ₂ := .f32) dot_S2x4096x8x64_S2x8x4096x4096_S2x8x64x4096_1_3_3_2_02_01 none V
      (Host.divf P (along (total P)) : Square) : FVec Ideal S2x8x64x4096 .f32)
    transposes_S2x8x64x4096_S2x4096x8x64_0_3_1_2

/-- The reference's result. -/
def attention (Q K V : Whole) : Whole := mixed (exps (scores Q K)) V

variable (Q K V : Whole) (S P : Square)

theorem scores_apply (a : Fin 2) (b : Fin 8) (i j : Fin 4096) :
    scores Q K (ix4 a b i j) = (∑ d : Fin 64, Q (ix4 a i b d) * K (ix4 a j b d)) * Ideal.ofBits .f32 0x3E000000#32 := by
  pointwise [scores]

theorem top_apply (a : Fin 2) (b : Fin 8) (i : Fin 4096) :
    top S (ix3 a b i) = Finset.univ.fold max (Ideal.ofBits .f32 0xFF800000#32) fun j : Fin 4096 => S (ix4 a b i j) := by
  pointwise [top]

theorem exps_apply (a : Fin 2) (b : Fin 8) (i j : Fin 4096) :
    exps S (ix4 a b i j) = Ideal.exp (S (ix4 a b i j) - top S (ix3 a b i)) := by
  pointwise [exps, along]

theorem mixed_apply (a : Fin 2) (i : Fin 4096) (b : Fin 8) (d : Fin 64) :
    mixed P V (ix4 a i b d)
      = ∑ j : Fin 4096, V (ix4 a j b d) * Ideal.div (P (ix4 a b i j)) (∑ k : Fin 4096, P (ix4 a b i k)) := by
  pointwise [mixed, along, total]

/-- The reference's run, with its result named. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.RingAttention

end
-- ==== Proof.Softmax.lean ====
module

public import Idealize.ShloMosaic.PureOps.Ideal

/-!
# A softmax that subtracts the greatest score, and one that does not

For real scores the weights of the two are the same, whatever the weighted values are: these may be infinite.
-/

@[expose] public section

noncomputable section

namespace Cert.RingAttention

open Idealize.ShloMosaic

variable {ι : Type} [Fintype ι]

/-- The greatest of real numbers is one of them. -/
theorem fold_max_real [Nonempty ι] (s : ι → ℝ) :
    ∃ m : ℝ, Finset.univ.fold max (⊥ : EReal) (fun j => (s j : EReal)) = m := by
  obtain ⟨i, _, h⟩ := Finset.exists_mem_eq_sup (Finset.univ : Finset ι) Finset.univ_nonempty fun j => (s j : EReal)
  exact ⟨s i, h⟩

/-- Multiplying by a nonnegative real goes through a sum of extended reals. -/
theorem sum_mul_real (w : ι → EReal) {r : ℝ} (hr : 0 ≤ r) : ∑ j, w j * (r : EReal) = (∑ j, w j) * (r : EReal) := by
  classical
  have hr' : (0 : EReal) ≤ (r : EReal) := by exact_mod_cast hr
  refine Finset.induction_on (Finset.univ : Finset ι) (by simp) fun a t ha ih => ?_
  rw [Finset.sum_insert ha, Finset.sum_insert ha, ih, EReal.right_distrib_of_nonneg_of_ne_top hr' (EReal.coe_ne_top r)]

/-- A sum of reals, read in the extended reals. -/
theorem sum_real (w : ι → ℝ) : ∑ j, (w j : EReal) = ((∑ j, w j : ℝ) : EReal) := by
  classical
  refine Finset.induction_on (Finset.univ : Finset ι) (by simp) fun a t ha ih => ?_
  rw [Finset.sum_insert ha, Finset.sum_insert ha, ih, EReal.coe_add]

/-- The exponential of a real is the real exponential. -/
theorem exp_real (x : ℝ) : Ideal.exp (x : EReal) = ((Real.exp x : ℝ) : EReal) := rfl

/-- The two softmaxes give one weighted sum. -/
theorem softmax_shift [Nonempty ι] (s : ι → ℝ) (v : ι → EReal) :
    ∑ j, v j * Ideal.div (Ideal.exp ((s j : EReal) - Finset.univ.fold max (⊥ : EReal) fun k => (s k : EReal)))
        (∑ k, Ideal.exp ((s k : EReal) - Finset.univ.fold max (⊥ : EReal) fun k => (s k : EReal)))
      = Ideal.div (∑ j, v j * Ideal.exp (s j : EReal)) (∑ k, Ideal.exp (s k : EReal)) := by
  obtain ⟨m, hm⟩ := fold_max_real s
  have hpos : 0 < ∑ k, Real.exp (s k) := Finset.sum_pos (fun k _ => Real.exp_pos _) Finset.univ_nonempty
  have hposm : 0 < ∑ k, Real.exp (s k - m) := Finset.sum_pos (fun k _ => Real.exp_pos _) Finset.univ_nonempty
  have hw : ∀ j, Real.exp (s j - m) * (1 / ∑ k, Real.exp (s k - m)) = Real.exp (s j) * (1 / ∑ k, Real.exp (s k)) := by
    intro j
    have he : ∀ k, Real.exp (s k - m) = Real.exp (s k) * Real.exp (-m) := fun k => by rw [← Real.exp_add, sub_eq_add_neg]
    have hsum : ∑ k, Real.exp (s k - m) = (∑ k, Real.exp (s k)) * Real.exp (-m) := by
      rw [Finset.sum_mul]; exact Finset.sum_congr rfl fun k _ => he k
    rw [hsum, he j]
    have := (Real.exp_pos (-m)).ne'
    field_simp
  rw [hm]
  simp only [← EReal.coe_sub, exp_real, sum_real]
  simp only [Ideal.div_coe hposm.ne', Ideal.div_coe hpos.ne']
  rw [← sum_mul_real _ (by positivity)]
  refine Finset.sum_congr rfl fun j _ => ?_
  rw [← EReal.coe_mul, hw j, EReal.coe_mul, mul_assoc]

end Cert.RingAttention

end
-- ==== Proof.Rounds.lean ====
module

public import proofs.«01_k».proof.Proof.Hops
public import Idealize.ShloMosaic.Lib.Pointwise

/-!
# The rounds, summed

Over the extended reals the accumulators of a device hold sums over the half blocks met so far, and after the last round
each direction has met every device once: the result is a quotient of sums over all devices.
-/

@[expose] public section

set_option maxRecDepth 16384

noncomputable section

namespace Cert.RingAttention

open Cert.KernelIdeal Cert.KernelIdeal.Gen
open Idealize.ShloMosaic

/-! ## One round -/

/-- The weight of a key of a half block for a query. -/
def weight (K : Half Ideal) (Q : Queries Ideal) (a : Fin 2) (b : Fin 8) (k : Fin 256) (q : Fin 512) : EReal :=
  Ideal.exp (∑ d : Fin 64, K (ix4 a b d k) * Q (ix4 a b d q))

/-- The weights of a half block for a query, summed. -/
def lHalf (Q : Queries Ideal) (K : Half Ideal) (a : Fin 2) (b : Fin 8) (q : Fin 512) : EReal :=
  ∑ k : Fin 256, weight K Q a b k q

/-- The weighted values of a half block for a query, summed. -/
def oHalf (Q : Queries Ideal) (K V : Half Ideal) (a : Fin 2) (b : Fin 8) (i : Fin 64) (q : Fin 512) : EReal :=
  ∑ k : Fin 256, V (ix4 a b i k) * weight K Q a b k q

variable (Q : Queries Ideal) (X : Met Ideal) (a : Fin 2) (b : Fin 8) (i : Fin 64) (q : Fin 512)

theorem htile_apply {α : Type} (x : S2x8x64x256.Idx → α) (d : Fin 64) (k : Fin 256) :
    htile x a b (ix2 d k) = x (ix4 a b d k) := rfl
theorem tile_apply {α : Type} (x : S2x8x64x512.Idx → α) : tile x a b (ix2 i q) = x (ix4 a b i q) := rfl
theorem row_apply {α : Type} (x : S2x8x512.Idx → α) : row x a b (ix1 q) = x (ix3 a b q) := rfl

theorem weights_apply (K : FVec Ideal S64x256 .bf16) (R : FVec Ideal S64x512 .bf16) (k : Fin 256) :
    weights K R (ix2 k q) = Ideal.exp (∑ d : Fin 64, K (ix2 d k) * R (ix2 d q)) := by
  pointwise [weights]

theorem lAdd_apply : lAdd Q X a b (ix1 q) = lHalf Q (X true false) a b q + lHalf Q (X false false) a b q := by
  pointwise [lAdd, wsum, weights_apply, lHalf, weight, htile_apply, tile_apply]

theorem oAdd_apply : oAdd Q X a b (ix2 i q)
    = oHalf Q (X true false) (X true true) a b i q + oHalf Q (X false false) (X false true) a b i q := by
  pointwise [oAdd, vsum, weighted, weights_apply, oHalf, weight, htile_apply, tile_apply]

theorem quot_apply (o : FVec Ideal S64x512 .f32) (l : FVec Ideal S512 .f32) :
    quot o l (ix2 i q) = Ideal.div (o (ix2 i q)) (l (ix1 q)) := by
  pointwise [quot]

/-! ## All rounds -/

variable (B : Dev nD → Met Ideal) (c : Dev nD)

/-- What the half block of device `d` in direction `r` adds to a denominator. -/
def lPart (r : Bool) (d : Dev nD) : EReal := lHalf Q (B d r false) a b q

/-- What it adds to a numerator. -/
def oPart (r : Bool) (d : Dev nD) : EReal := oHalf Q (B d r false) (B d r true) a b i q

theorem ringL_apply (n : ℕ) : ringL B c Q n (ix3 a b q)
    = (lPart Q a b q B true c + lPart Q a b q B false c)
      + ∑ h ∈ Finset.range n, (lPart Q a b q B true (origin true h c) + lPart Q a b q B false (origin false h c)) := by
  induction n with
  | zero => rw [Finset.range_zero, Finset.sum_empty, add_zero]; exact lAdd_apply Q (B c) a b q
  | succ n ih =>
    rw [Finset.sum_range_succ, ← add_assoc, ← ih]
    exact congrArg _ (lAdd_apply Q (met B c n) a b q)

theorem ringO_apply (n : ℕ) : ringO B c Q n (ix4 a b i q)
    = (oPart Q a b i q B true c + oPart Q a b i q B false c)
      + ∑ h ∈ Finset.range n, (oPart Q a b i q B true (origin true h c) + oPart Q a b i q B false (origin false h c)) := by
  induction n with
  | zero => rw [Finset.range_zero, Finset.sum_empty, add_zero]; exact oAdd_apply Q (B c) a b i q
  | succ n ih =>
    rw [Finset.sum_range_succ, ← add_assoc, ← ih]
    exact congrArg _ (oAdd_apply Q (met B c n) a b i q)

/-- The devices whose half blocks a device meets in one direction: itself, then those behind it. -/
def visit (r : Bool) (k : Fin 8) : Dev nD := if k.val = 0 then c else origin r (k.val - 1) c

/-- It meets every device once. -/
theorem visit_bijective (r : Bool) : Function.Bijective (visit c r) := by
  have h : ∀ (r : Bool) (c : Dev nD), Function.Injective (visit c r) := by decide
  exact Finite.injective_iff_bijective.mp (h r c)

/-- The sum over the devices met in one direction is the sum over all devices. -/
theorem sum_visit (r : Bool) (f : Dev nD → EReal) : f c + ∑ h ∈ Finset.range 7, f (origin r h c) = ∑ d, f d := by
  rw [← (visit_bijective c r).sum_comp f, Fin.sum_univ_succ, Finset.sum_range]
  rfl

/-- The result of a device: the weighted values of all devices over all weights. -/
theorem ringOut_apply : ringOut B c Q (ix4 a b i q)
    = Ideal.div (∑ d, oPart Q a b i q B true d + ∑ d, oPart Q a b i q B false d)
        (∑ d, lPart Q a b q B true d + ∑ d, lPart Q a b q B false d) := by
  have hO : ringO B c Q 7 (ix4 a b i q) = ∑ d, oPart Q a b i q B true d + ∑ d, oPart Q a b i q B false d := by
    rw [ringO_apply, Finset.sum_add_distrib, add_add_add_comm, sum_visit, sum_visit]
  have hL : ringL B c Q 7 (ix3 a b q) = ∑ d, lPart Q a b q B true d + ∑ d, lPart Q a b q B false d := by
    rw [ringL_apply, Finset.sum_add_distrib, add_add_add_comm, sum_visit, sum_visit]
  rw [← hO, ← hL]
  exact quot_apply i q _ _

end Cert.RingAttention

end
-- ==== Proof.Inputs.lean ====
module

public import proofs.«01_k».proof.Proof.Run
public import proofs.«01_k».proof.Proof.Rounds

/-!
# What the call is given

The queries, keys and values that a device brings to the call, element by element, as functions of its arguments.
-/

@[expose] public section

set_option maxRecDepth 16384

noncomputable section

namespace Cert.RingAttention

open Cert.KernelIdeal Cert.KernelIdeal.Gen
open Idealize.ShloMosaic Idealize.ShloMosaic.TcCoe

/-- A device's block of an argument array over the extended reals. -/
abbrev Part : Type := FVec Ideal S2x512x8x64 .f32

/-- The queries as the call takes them: scaled, the rows of a block last. -/
def laidQ (x : Part) : Queries Ideal :=
  truncf .bf16 (mulf (transpose S2x8x64x512 [0, 2, 3, 1] x transposes_S2x512x8x64_S2x8x64x512_0_2_3_1)
    (broadcastInDim S2x8x64x512 ![] bcast_S_S2x8x64x512 (constant S_ .f32 0x3E000000#32))) bitsLt_bf16_f32

/-- The keys or the values as the call takes them. -/
def laidK (x : Part) : Queries Ideal :=
  truncf .bf16 (transpose S2x8x64x512 [0, 2, 3, 1] x transposes_S2x512x8x64_S2x8x64x512_0_2_3_1 : FVec Ideal S2x8x64x512 .f32) bitsLt_bf16_f32

/-- The lower and the upper half of them. -/
def lower (x : Part) : Half Ideal := extractStridedSlice S2x8x64x256 ![0, 0, 0, 0] (laidK x) slices_S2x8x64x512_S2x8x64x256_0_0_0_0
def upper (x : Part) : Half Ideal := extractStridedSlice S2x8x64x256 ![0, 0, 0, 256] (laidK x) slices_S2x8x64x512_S2x8x64x256_0_0_0_256

variable (x : Part) (a : Fin 2) (b : Fin 8) (d : Fin 64)

theorem laidQ_apply (q : Fin 512) : laidQ x (ix4 a b d q) = x (ix4 a q b d) * Ideal.ofBits .f32 0x3E000000#32 := by
  pointwise [laidQ]

theorem lower_apply (k : Fin 256) : lower x (ix4 a b d k) = x (ix4 a ⟨k.val, by omega⟩ b d) := by
  pointwise [lower, laidK]

theorem upper_apply (k : Fin 256) : upper x (ix4 a b d k) = x (ix4 a ⟨256 + k.val, by omega⟩ b d) := by
  pointwise [upper, laidK]

variable (m : (ℓ : Loc nD τ sig) → Buf (Elt Ideal) ℓ) (c : Dev nD)

theorem entry_queries : queries (entry m) c = laidQ (m ((c : Thread nD τ).loc main_arg0)) := by
  unfold queries entry
  after_results
  rfl

theorem entry_right_keys : blocks (entry m) c true false = lower (m ((c : Thread nD τ).loc main_arg1)) := by
  show entry m c _ = _
  unfold entry
  after_results
  rfl
theorem entry_left_keys : blocks (entry m) c false false = upper (m ((c : Thread nD τ).loc main_arg1)) := by
  show entry m c _ = _
  unfold entry
  after_results
  rfl
theorem entry_right_values : blocks (entry m) c true true = lower (m ((c : Thread nD τ).loc main_arg2)) := by
  show entry m c _ = _
  unfold entry
  after_results
  rfl
theorem entry_left_values : blocks (entry m) c false true = upper (m ((c : Thread nD τ).loc main_arg2)) := by
  show entry m c _ = _
  unfold entry
  after_results
  rfl

/-- The program's result on a device, element by element. -/
theorem answer_apply (q : Fin 512) : answer m c (ix4 a q b d) = result (entry m) c (ix4 a b d q) := by
  pointwise [answer]

end Cert.RingAttention

end
-- ==== Proof.Finite.lean ====
module

public import proofs.«01_k».proof.Proof.Frames
public import Idealize.ShloMosaic.Lib.Pointwise
public import Idealize.ShloMosaic.Lib.Affine

/-!
# The precondition, read

Where the precondition holds, every query and every key of a device is a real number. The scale is a real number too.
-/

@[expose] public section

set_option maxRecDepth 16384

noncomputable section

namespace Cert.RingAttention

open Idealize.ShloMosaic

/-- An extended real below `⊤` in size is a real. -/
theorem real_of_abs_lt_top {x : EReal} (h : max x (-x) < ⊤) : ∃ r : ℝ, x = r := by
  have h1 : x ≠ ⊤ := fun e => by simp [e] at h
  have h2 : x ≠ ⊥ := fun e => by simp [e] at h
  exact ⟨x.toReal, (EReal.coe_toReal h1 h2).symm⟩

/-- The f32 word of the scale is a real. -/
theorem scale_real : ∃ r : ℝ, Ideal.ofBits .f32 0x3E000000#32 = (r : EReal) :=
  ⟨1 / 8, by simp [Ideal.ofBits, Ideal.ieee, -EReal.coe_mul]; norm_num⟩

/-- The f32 word of the infinity. -/
theorem infinity : Ideal.ofBits .f32 0x7F800000#32 = ⊤ := by simp [Ideal.ofBits, Ideal.ieee]

/-- The f32 word of the negative infinity. -/
theorem negative_infinity : Ideal.ofBits .f32 0xFF800000#32 = ⊥ := by simp [Ideal.ofBits, Ideal.ieee]

section

open Cert.Pre_finite_KernelIdeal

variable (x y z : FVec Ideal S2x512x8x64 .f32)

/-- What the precondition says of one array: each comparison with the infinity is true. -/
theorem real_of_below (i : S2x512x8x64.Idx)
    (h : cmpf .olt (Host.absf x) (broadcastInDim S2x512x8x64 ![] Facts.bcast_S_S2x512x8x64 (constant (F := Ideal) S_ .f32 0x7F800000#32)) i = 1#1) :
    ∃ r : ℝ, x i = r := by
  refine real_of_abs_lt_top ?_
  rw [← infinity]
  have h' : BitVec.ofBool (decide (max (x i) (-(x i)) < Ideal.ofBits .f32 0x7F800000#32)) = 1#1 := h
  by_contra hn
  rw [decide_eq_false hn] at h'
  exact absurd h' (by decide)

/-- The precondition makes the queries and the keys real. -/
theorem real_of_finite (h : fn (F := Ideal) x y z = fun _ => 1#1) (i : S2x512x8x64.Idx) :
    (∃ r : ℝ, x i = r) ∧ ∃ r : ℝ, y i = r := by
  have h0 := congrFun h ix0
  dsimp only [fn] at h0
  have h1 := IntOp.andi_eq_one.mp h0
  haveI : Subsingleton S_.Idx := ⟨fun p q => funext fun a => a.elim0⟩
  exact ⟨real_of_below x i (Host.reduce_andi_all _ _ _ _ _ h1.1 i), real_of_below y i (Host.reduce_andi_all _ _ _ _ _ h1.2 i)⟩

end

end Cert.RingAttention

end
-- ==== Proof.Value.lean ====
module

public import proofs.«01_k».proof.Proof.Ref
public import proofs.«01_k».proof.Proof.Softmax
public import proofs.«01_k».proof.Proof.Inputs
public import proofs.«01_k».proof.Proof.Finite

/-!
# The value of the program

Where queries and keys are real numbers, each device ends with its block of the reference's attention over the extended
reals.
-/

@[expose] public section

set_option maxRecDepth 16384

noncomputable section

namespace Cert.RingAttention

open Idealize.ShloMosaic Idealize.ShloMosaic.TcCoe Idealize.SL.Sem
open Cert.KernelIdeal (S2x512x8x64)
open Cert.ReferenceIdeal (S2x4096x8x64)

/-! ## Blocks -/

/-- Row `q` of device `c` in a whole array. -/
def spot (c : Fin 8) (q : Fin 512) : Fin 4096 := ⟨512 * c.val + q.val, by omega⟩

/-- An element of a block. -/
theorem block_ix {α : Type} (c : Fin 8) (v : S2x4096x8x64.Idx → α) (a : Fin 2) (q : Fin 512) (b : Fin 8) (d : Fin 64) :
    Layout.block ⟨4, ![2, 512, 8, 64]⟩ ⟨4, ![2, 4096, 8, 64]⟩ 1 8 c v (by decide) (ix4 a q b d) = v (ix4 a (spot c q) b d) := by
  refine congrArg v (funext fun x => Fin.ext ?_)
  match x with
  | ⟨0, _⟩ => rfl
  | ⟨1, _⟩ => show c.val * 512 + q.val = 512 * c.val + q.val; omega
  | ⟨2, _⟩ => rfl
  | ⟨3, _⟩ => rfl

/-- Every row of a whole array is a row of a device. -/
theorem exists_spot (j : Fin 4096) : ∃ (c : Fin 8) (q : Fin 512), j = spot c q :=
  ⟨⟨j.val / 512, by omega⟩, ⟨j.val % 512, by omega⟩, Fin.ext (by show j.val = 512 * (j.val / 512) + j.val % 512; omega)⟩

/-- A sum over the rows of a whole array, by device and half. -/
theorem sum_rows (f : Fin 4096 → EReal) :
    ∑ j, f j = ∑ c : Fin 8, ∑ k : Fin 256, f (spot c ⟨k.val, by omega⟩) + ∑ c : Fin 8, ∑ k : Fin 256, f (spot c ⟨256 + k.val, by omega⟩) := by
  rw [← Finset.sum_add_distrib]
  calc ∑ j, f j = ∑ p : Fin 8 × Fin 512, f (spot p.1 p.2) := by
        refine (Equiv.sum_comp (finProdFinEquiv (m := 8) (n := 512)) f).symm.trans (Finset.sum_congr rfl fun p _ => congrArg f (Fin.ext ?_))
        show p.2.val + 512 * p.1.val = 512 * p.1.val + p.2.val
        omega
    _ = ∑ c : Fin 8, ∑ q : Fin 512, f (spot c q) := Fintype.sum_prod_type _
    _ = _ := Finset.sum_congr rfl fun c _ => Fin.sum_univ_two_halves 256 256 rfl fun q => f (spot c q)

/-! ## One element -/

section Element

variable (Q K V : Whole)

/-- The score of key `j` for query `i`, as the kernel computes it: queries scaled first. -/
def score (a : Fin 2) (b : Fin 8) (i j : Fin 4096) : EReal :=
  ∑ d : Fin 64, K (ix4 a j b d) * (Q (ix4 a i b d) * Ideal.ofBits .f32 0x3E000000#32)

/-- Real queries and keys give a real score, and the reference's is the same. -/
theorem score_real (hQ : ∀ x, ∃ r : ℝ, Q x = r) (hK : ∀ x, ∃ r : ℝ, K x = r) (a : Fin 2) (b : Fin 8) (i j : Fin 4096) :
    ∃ r : ℝ, score Q K a b i j = r ∧ scores Q K (ix4 a b i j) = r := by
  obtain ⟨w, hw⟩ := scale_real
  choose q hq using hQ
  choose k hk using hK
  refine ⟨∑ d : Fin 64, k (ix4 a j b d) * (q (ix4 a i b d) * w), ?_, ?_⟩
  · rw [score, hw, ← sum_real]
    exact Finset.sum_congr rfl fun d _ => by rw [hk, hq, EReal.coe_mul, EReal.coe_mul]
  · rw [scores_apply, hw]
    have h : ∀ d : Fin 64, Q (ix4 a i b d) * K (ix4 a j b d) = ((q (ix4 a i b d) * k (ix4 a j b d) : ℝ) : EReal) := fun d => by
      rw [hk, hq, EReal.coe_mul]
    rw [Finset.sum_congr rfl fun d _ => h d, sum_real, ← EReal.coe_mul, Finset.sum_mul]
    exact congrArg _ (Finset.sum_congr rfl fun d _ => by ring)

/-- An element of the reference's attention: weighted values over weights, nothing subtracted. -/
theorem attention_apply (hQ : ∀ x, ∃ r : ℝ, Q x = r) (hK : ∀ x, ∃ r : ℝ, K x = r) (a : Fin 2) (i : Fin 4096) (b : Fin 8) (d : Fin 64) :
    attention Q K V (ix4 a i b d)
      = Ideal.div (∑ j, V (ix4 a j b d) * Ideal.exp (score Q K a b i j)) (∑ j, Ideal.exp (score Q K a b i j)) := by
  choose s h1 h2 using fun j => score_real Q K hQ hK a b i j
  simp only [attention, mixed_apply, exps_apply, top_apply, negative_infinity, h1, h2]
  exact softmax_shift s fun j => V (ix4 a j b d)

variable {m : (ℓ : Loc Cert.KernelIdeal.nD Cert.KernelIdeal.τ Cert.KernelIdeal.sig) → Buf (Elt Ideal) ℓ}

/-- The arguments of the devices are the blocks of three whole arrays. -/
def Cut (m : (ℓ : Loc Cert.KernelIdeal.nD Cert.KernelIdeal.τ Cert.KernelIdeal.sig) → Buf (Elt Ideal) ℓ) : Prop :=
  ∀ c : Dev Cert.KernelIdeal.nD,
    m ((c.tc : Thread Cert.KernelIdeal.nD Cert.KernelIdeal.τ).loc Cert.KernelIdeal.main_arg0) = Layout.block ⟨4, ![2, 512, 8, 64]⟩ ⟨4, ![2, 4096, 8, 64]⟩ 1 8 c Q
    ∧ m ((c.tc : Thread Cert.KernelIdeal.nD Cert.KernelIdeal.τ).loc Cert.KernelIdeal.main_arg1) = Layout.block ⟨4, ![2, 512, 8, 64]⟩ ⟨4, ![2, 4096, 8, 64]⟩ 1 8 c K
    ∧ m ((c.tc : Thread Cert.KernelIdeal.nD Cert.KernelIdeal.τ).loc Cert.KernelIdeal.main_arg2) = Layout.block ⟨4, ![2, 512, 8, 64]⟩ ⟨4, ![2, 4096, 8, 64]⟩ 1 8 c V

variable (h : Cut Q K V m) (a : Fin 2) (b : Fin 8) (i : Fin 64) (c e : Fin 8) (q : Fin 512) (k : Fin 256)

include h

/-- The weight of a key of the half that travels to the right. -/
theorem weight_right : weight (blocks (entry m) e true false) (queries (entry m) c) a b k q
    = Ideal.exp (score Q K a b (spot c q) (spot e ⟨k.val, by omega⟩)) := by
  rw [weight, score, entry_queries, entry_right_keys]
  refine congrArg _ (Finset.sum_congr rfl fun d _ => ?_)
  rw [lower_apply, laidQ_apply, (h c).1, (h e).2.1, block_ix, block_ix]

/-- The weight of a key of the half that travels to the left. -/
theorem weight_left : weight (blocks (entry m) e false false) (queries (entry m) c) a b k q
    = Ideal.exp (score Q K a b (spot c q) (spot e ⟨256 + k.val, by omega⟩)) := by
  rw [weight, score, entry_queries, entry_left_keys]
  refine congrArg _ (Finset.sum_congr rfl fun d _ => ?_)
  rw [upper_apply, laidQ_apply, (h c).1, (h e).2.1, block_ix, block_ix]

/-- An element of the program's result. -/
theorem answer_eq : answer m c (ix4 a q b i)
    = Ideal.div (∑ j, V (ix4 a j b i) * Ideal.exp (score Q K a b (spot c q) j)) (∑ j, Ideal.exp (score Q K a b (spot c q) j)) := by
  rw [answer_apply, sum_rows, sum_rows]
  refine (ringOut_apply (queries (entry m) c) a b i q (blocks (entry m)) c).trans ?_
  simp only [oPart, lPart, oHalf, lHalf]
  refine congrArg₂ Ideal.div (congrArg₂ (· + ·) ?_ ?_) (congrArg₂ (· + ·) ?_ ?_)
  · refine Finset.sum_congr rfl fun e _ => Finset.sum_congr rfl fun k _ => ?_
    rw [weight_right Q K V h, entry_right_values, lower_apply, (h e).2.2, block_ix]
  · refine Finset.sum_congr rfl fun e _ => Finset.sum_congr rfl fun k _ => ?_
    rw [weight_left Q K V h, entry_left_values, upper_apply, (h e).2.2, block_ix]
  · exact Finset.sum_congr rfl fun e _ => Finset.sum_congr rfl fun k _ => weight_right Q K V h a b c e q k
  · exact Finset.sum_congr rfl fun e _ => Finset.sum_congr rfl fun k _ => weight_left Q K V h a b c e q k

/-- Each device ends with its block of the reference's result. -/
theorem answer_block (hQ : ∀ x, ∃ r : ℝ, Q x = r) (hK : ∀ x, ∃ r : ℝ, K x = r) :
    answer m c = Layout.block ⟨4, ![2, 512, 8, 64]⟩ ⟨4, ![2, 4096, 8, 64]⟩ 1 8 c (attention Q K V) := by
  funext x
  obtain ⟨a, q, b, i, rfl⟩ : ∃ (a : Fin 2) (q : Fin 512) (b : Fin 8) (i : Fin 64), x = ix4 a q b i := ⟨x 0, x 1, x 2, x 3, eq_ix4 x⟩
  rw [block_ix, attention_apply Q K V hQ hK, answer_eq Q K V h]

end Element

/-- The value claim. -/
theorem value : Cert.algebraic_KernelIdeal_ReferenceIdeal_pre_finite_KernelIdeal := fun m ρ m' ρ' hpre hcut => by
  let Q : Whole := m' (((0 : Dev Cert.ReferenceIdeal.nD).tc : Thread Cert.ReferenceIdeal.nD Cert.ReferenceIdeal.τ).loc Cert.ReferenceIdeal.main_arg0)
  let K : Whole := m' (((0 : Dev Cert.ReferenceIdeal.nD).tc : Thread Cert.ReferenceIdeal.nD Cert.ReferenceIdeal.τ).loc Cert.ReferenceIdeal.main_arg1)
  let V : Whole := m' (((0 : Dev Cert.ReferenceIdeal.nD).tc : Thread Cert.ReferenceIdeal.nD Cert.ReferenceIdeal.τ).loc Cert.ReferenceIdeal.main_arg2)
  have h : Cut Q K V m := hcut
  have hreal : ∀ x, (∃ r : ℝ, Q x = r) ∧ ∃ r : ℝ, K x = r := fun x => by
    obtain ⟨a, j, b, d, rfl⟩ : ∃ (a : Fin 2) (j : Fin 4096) (b : Fin 8) (d : Fin 64), x = ix4 a j b d := ⟨x 0, x 1, x 2, x 3, eq_ix4 x⟩
    obtain ⟨c, q, rfl⟩ := exists_spot j
    have hx := real_of_finite _ _ _ (hpre c) (ix4 a q b d)
    rw [(h c).1, (h c).2.1, block_ix, block_ix] at hx
    exact hx
  refine ⟨attention Q K V, ?_, ?_⟩
  · exact (θ_run Cert.KernelIdeal.defs _ _).mono
      (fun _ hr c => ⟨(hr.1 c).1.2.2.2.trans (answer_block Q K V h c (fun x => (hreal x).1) fun x => (hreal x).2),
        (hr.1 c).1.1, (hr.1 c).1.2.1, (hr.1 c).1.2.2.1⟩) (run_main (F := Ideal) m ρ)
  · exact (θ_run Cert.ReferenceIdeal.defs _ _).mono (fun _ hr => hr 0) (run_reference m' ρ')

end Cert.RingAttention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.RingAttention.pre_block, Cert.RingAttention.pre_whole,
    Cert.RingAttention.frame_kernel,
    Cert.RingAttention.frame_kernelIdeal,
    fun m ρ _ => Cert.RingAttention.frame_kernelIdeal m ρ trivial,
    Cert.RingAttention.frame_reference,
    fun m ρ _ => Cert.RingAttention.frame_reference m ρ trivial,
    trivial,
    Cert.RingAttention.value⟩

end Cert.Proof

end
